-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ preserves_Kernel_KernelIdeal
    ∧ algebraic_KernelIdeal_ReferenceIdeal (hKernelIdeal := hKernelIdeal) (hReferenceIdeal := hReferenceIdeal)
    ∧ preserves_Kernel2_Kernel2Ideal
-- ==== Kernel.lean ====
abbrev S8x4096x1024 : Shape := ⟨3, ![8, 4096, 1024]⟩
abbrev S8x4096x512 : Shape := ⟨3, ![8, 4096, 512]⟩
abbrev S1x31x1x512 : Shape := ⟨4, ![1, 31, 1, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S32768x1024 : Shape := ⟨2, ![32768, 1024]⟩
abbrev S32768x512 : Shape := ⟨2, ![32768, 512]⟩
abbrev S1024x1024 : Shape := ⟨2, ![1024, 1024]⟩
abbrev S31x1x512 : Shape := ⟨3, ![31, 1, 512]⟩
abbrev S31x512 : Shape := ⟨2, ![31, 512]⟩
abbrev S31x8x512 : Shape := ⟨3, ![31, 8, 512]⟩
abbrev S248x512 : Shape := ⟨2, ![248, 512]⟩
abbrev S512 : Shape := ⟨1, ![512]⟩
abbrev S512x1024 : Shape := ⟨2, ![512, 1024]⟩
abbrev S1024x4096 : Shape := ⟨2, ![1024, 4096]⟩
abbrev S4096x1024 : Shape := ⟨2, ![4096, 1024]⟩
abbrev S512x512 : Shape := ⟨2, ![512, 512]⟩
abbrev S544x512 : Shape := ⟨2, ![544, 512]⟩
abbrev S7x536x512 : Shape := ⟨3, ![7, 536, 512]⟩
abbrev S32x512 : Shape := ⟨2, ![32, 512]⟩
abbrev S536x512 : Shape := ⟨2, ![536, 512]⟩
abbrev S1x536x512 : Shape := ⟨3, ![1, 536, 512]⟩
abbrev S16x512 : Shape := ⟨2, ![16, 512]⟩
abbrev S1x16x512 : Shape := ⟨3, ![1, 16, 512]⟩
abbrev S8x512 : Shape := ⟨2, ![8, 512]⟩
abbrev S16 : Shape := ⟨1, ![16]⟩
abbrev S16x1 : Shape := ⟨2, ![16, 1]⟩
abbrev S512x1 : Shape := ⟨2, ![512, 1]⟩
abbrev S512x4096 : Shape := ⟨2, ![512, 4096]⟩

abbrev nBuf : Space → Nat
  | .hbm => 37
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .bf16⟩
  | .hbm, ⟨3, _⟩ => ⟨S1x31x1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1024, .f32⟩
  | .hbm, ⟨12, _⟩ => ⟨S32768x1024, .f32⟩
  | .hbm, ⟨13, _⟩ => ⟨S32768x512, .f32⟩
  | .hbm, ⟨14, _⟩ => ⟨S32768x512, .bf16⟩
  | .hbm, ⟨15, _⟩ => ⟨S1024x1024, .f32⟩
  | .hbm, ⟨16, _⟩ => ⟨S1024x1024, .bf16⟩
  | .hbm, ⟨17, _⟩ => ⟨S31x1x512, .f32⟩
  | .hbm, ⟨18, _⟩ => ⟨S31x512, .f32⟩
  | .hbm, ⟨19, _⟩ => ⟨S31x8x512, .f32⟩
  | .hbm, ⟨20, _⟩ => ⟨S248x512, .f32⟩
  | .hbm, ⟨21, _⟩ => ⟨S512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S512x1024, .bf16⟩
  | .hbm, ⟨28, _⟩ => ⟨S512x1024, .bf16⟩
  | .hbm, ⟨29, _⟩ => ⟨S1024, .f32⟩
  | .hbm, ⟨30, _⟩ => ⟨S1x1024, .f32⟩
  | .hbm, ⟨31, _⟩ => ⟨S1024x4096, .f32⟩
  | .hbm, ⟨32, _⟩ => ⟨S1024x4096, .bf16⟩
  | .hbm, ⟨33, _⟩ => ⟨S4096x1024, .f32⟩
  | .hbm, ⟨34, _⟩ => ⟨S4096x1024, .bf16⟩
  | .hbm, ⟨35, _⟩ => ⟨S1x1024, .f32⟩
  | .hbm, ⟨36, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S248x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x512, .bf16⟩
  | .local _ .vmem, ⟨20, _⟩ => ⟨S544x512, .f32⟩
  | .local _ .vmem, ⟨21, _⟩ => ⟨S7x536x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S248x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x4096x1024 : Shape := ⟨3, ![8, 4096, 1024]⟩
abbrev S8x4096x512 : Shape := ⟨3, ![8, 4096, 512]⟩
abbrev S1x31x1x512 : Shape := ⟨4, ![1, 31, 1, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x4126x512 : Shape := ⟨3, ![8, 4126, 512]⟩
abbrev S31x1x512 : Shape := ⟨3, ![31, 1, 512]⟩
abbrev S1x1x512 : Shape := ⟨3, ![1, 1, 512]⟩
abbrev S512 : Shape := ⟨1, ![512]⟩
abbrev S8x4096 : Shape := ⟨2, ![8, 4096]⟩
abbrev S8x4096x1 : Shape := ⟨3, ![8, 4096, 1]⟩
abbrev S1024x1024 : Shape := ⟨2, ![1024, 1024]⟩
abbrev S1x1x1024 : Shape := ⟨3, ![1, 1, 1024]⟩
abbrev S1024x4096 : Shape := ⟨2, ![1024, 4096]⟩
abbrev S8x4096x4096 : Shape := ⟨3, ![8, 4096, 4096]⟩
abbrev S4096x1024 : Shape := ⟨2, ![4096, 1024]⟩
abbrev S32768x1024 : Shape := ⟨2, ![32768, 1024]⟩

abbrev nBuf : Space → Nat
  | .hbm => 357
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .bf16⟩
  | 3 => ⟨S1x31x1x512, .f32⟩
  | 4 => ⟨S1x512, .f32⟩
  | 5 => ⟨S1x512, .f32⟩
  | 6 => ⟨S1x512, .f32⟩
  | 7 => ⟨S1x1024x1024, .f32⟩
  | 8 => ⟨S1x1024, .f32⟩
  | 9 => ⟨S1x1024x4096, .f32⟩
  | 10 => ⟨S1x4096x1024, .f32⟩
  | 11 => ⟨S1024, .f32⟩
  | 12 => ⟨S_, .i32⟩
  | 13 => ⟨S_, .f32⟩
  | 14 => ⟨S8x4126x512, .f32⟩
  | 15 => ⟨S8x4096x512, .f32⟩
  | 16 => ⟨S31x1x512, .f32⟩
  | 17 => ⟨S1x1x512, .f32⟩
  | 18 => ⟨S1x512, .f32⟩
  | 19 => ⟨S1x1x512, .f32⟩
  | 20 => ⟨S8x4096x512, .f32⟩
  | 21 => ⟨S8x4096x512, .f32⟩
  | 22 => ⟨S_, .f32⟩
  | 23 => ⟨S8x4096x512, .f32⟩
  | 24 => ⟨S8x4096x512, .f32⟩
  | 25 => ⟨S8x4096x512, .f32⟩
  | 26 => ⟨S31x1x512, .f32⟩
  | 27 => ⟨S1x1x512, .f32⟩
  | 28 => ⟨S1x512, .f32⟩
  | 29 => ⟨S1x1x512, .f32⟩
  | 30 => ⟨S8x4096x512, .f32⟩
  | 31 => ⟨S8x4096x512, .f32⟩
  | 32 => ⟨S8x4096x512, .f32⟩
  | 33 => ⟨S8x4096x512, .f32⟩
  | 34 => ⟨S31x1x512, .f32⟩
  | 35 => ⟨S1x1x512, .f32⟩
  | 36 => ⟨S1x512, .f32⟩
  | 37 => ⟨S1x1x512, .f32⟩
  | 38 => ⟨S8x4096x512, .f32⟩
  | 39 => ⟨S8x4096x512, .f32⟩
  | 40 => ⟨S8x4096x512, .f32⟩
  | 41 => ⟨S8x4096x512, .f32⟩
  | 42 => ⟨S31x1x512, .f32⟩
  | 43 => ⟨S1x1x512, .f32⟩
  | 44 => ⟨S1x512, .f32⟩
  | 45 => ⟨S1x1x512, .f32⟩
  | 46 => ⟨S8x4096x512, .f32⟩
  | 47 => ⟨S8x4096x512, .f32⟩
  | 48 => ⟨S8x4096x512, .f32⟩
  | 49 => ⟨S8x4096x512, .f32⟩
  | 50 => ⟨S31x1x512, .f32⟩
  | 51 => ⟨S1x1x512, .f32⟩
  | 52 => ⟨S1x512, .f32⟩
  | 53 => ⟨S1x1x512, .f32⟩
  | 54 => ⟨S8x4096x512, .f32⟩
  | 55 => ⟨S8x4096x512, .f32⟩
  | 56 => ⟨S8x4096x512, .f32⟩
  | 57 => ⟨S8x4096x512, .f32⟩
  | 58 => ⟨S31x1x512, .f32⟩
  | 59 => ⟨S1x1x512, .f32⟩
  | 60 => ⟨S1x512, .f32⟩
  | 61 => ⟨S1x1x512, .f32⟩
  | 62 => ⟨S8x4096x512, .f32⟩
  | 63 => ⟨S8x4096x512, .f32⟩
  | 64 => ⟨S8x4096x512, .f32⟩
  | 65 => ⟨S8x4096x512, .f32⟩
  | 66 => ⟨S31x1x512, .f32⟩
  | 67 => ⟨S1x1x512, .f32⟩
  | 68 => ⟨S1x512, .f32⟩
  | 69 => ⟨S1x1x512, .f32⟩
  | 70 => ⟨S8x4096x512, .f32⟩
  | 71 => ⟨S8x4096x512, .f32⟩
  | 72 => ⟨S8x4096x512, .f32⟩
  | 73 => ⟨S8x4096x512, .f32⟩
  | 74 => ⟨S31x1x512, .f32⟩
  | 75 => ⟨S1x1x512, .f32⟩
  | 76 => ⟨S1x512, .f32⟩
  | 77 => ⟨S1x1x512, .f32⟩
  | 78 => ⟨S8x4096x512, .f32⟩
  | 79 => ⟨S8x4096x512, .f32⟩
  | 80 => ⟨S8x4096x512, .f32⟩
  | 81 => ⟨S8x4096x512, .f32⟩
  | 82 => ⟨S31x1x512, .f32⟩
  | 83 => ⟨S1x1x512, .f32⟩
  | 84 => ⟨S1x512, .f32⟩
  | 85 => ⟨S1x1x512, .f32⟩
  | 86 => ⟨S8x4096x512, .f32⟩
  | 87 => ⟨S8x4096x512, .f32⟩
  | 88 => ⟨S8x4096x512, .f32⟩
  | 89 => ⟨S8x4096x512, .f32⟩
  | 90 => ⟨S31x1x512, .f32⟩
  | 91 => ⟨S1x1x512, .f32⟩
  | 92 => ⟨S1x512, .f32⟩
  | 93 => ⟨S1x1x512, .f32⟩
  | 94 => ⟨S8x4096x512, .f32⟩
  | 95 => ⟨S8x4096x512, .f32⟩
  | 96 => ⟨S8x4096x512, .f32⟩
  | 97 => ⟨S8x4096x512, .f32⟩
  | 98 => ⟨S31x1x512, .f32⟩
  | 99 => ⟨S1x1x512, .f32⟩
  | 100 => ⟨S1x512, .f32⟩
  | 101 => ⟨S1x1x512, .f32⟩
  | 102 => ⟨S8x4096x512, .f32⟩
  | 103 => ⟨S8x4096x512, .f32⟩
  | 104 => ⟨S8x4096x512, .f32⟩
  | 105 => ⟨S8x4096x512, .f32⟩
  | 106 => ⟨S31x1x512, .f32⟩
  | 107 => ⟨S1x1x512, .f32⟩
  | 108 => ⟨S1x512, .f32⟩
  | 109 => ⟨S1x1x512, .f32⟩
  | 110 => ⟨S8x4096x512, .f32⟩
  | 111 => ⟨S8x4096x512, .f32⟩
  | 112 => ⟨S8x4096x512, .f32⟩
  | 113 => ⟨S8x4096x512, .f32⟩
  | 114 => ⟨S31x1x512, .f32⟩
  | 115 => ⟨S1x1x512, .f32⟩
  | 116 => ⟨S1x512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S31x1x512, .f32⟩
  | 123 => ⟨S1x1x512, .f32⟩
  | 124 => ⟨S1x512, .f32⟩
  | 125 => ⟨S1x1x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S31x1x512, .f32⟩
  | 3 => ⟨S1x1x512, .f32⟩
  | 4 => ⟨S1x512, .f32⟩
  | 5 => ⟨S1x1x512, .f32⟩
  | 6 => ⟨S8x4096x512, .f32⟩
  | 7 => ⟨S8x4096x512, .f32⟩
  | 8 => ⟨S8x4096x512, .f32⟩
  | 9 => ⟨S8x4096x512, .f32⟩
  | 10 => ⟨S31x1x512, .f32⟩
  | 11 => ⟨S1x1x512, .f32⟩
  | 12 => ⟨S1x512, .f32⟩
  | 13 => ⟨S1x1x512, .f32⟩
  | 14 => ⟨S8x4096x512, .f32⟩
  | 15 => ⟨S8x4096x512, .f32⟩
  | 16 => ⟨S8x4096x512, .f32⟩
  | 17 => ⟨S8x4096x512, .f32⟩
  | 18 => ⟨S31x1x512, .f32⟩
  | 19 => ⟨S1x1x512, .f32⟩
  | 20 => ⟨S1x512, .f32⟩
  | 21 => ⟨S1x1x512, .f32⟩
  | 22 => ⟨S8x4096x512, .f32⟩
  | 23 => ⟨S8x4096x512, .f32⟩
  | 24 => ⟨S8x4096x512, .f32⟩
  | 25 => ⟨S8x4096x512, .f32⟩
  | 26 => ⟨S31x1x512, .f32⟩
  | 27 => ⟨S1x1x512, .f32⟩
  | 28 => ⟨S1x512, .f32⟩
  | 29 => ⟨S1x1x512, .f32⟩
  | 30 => ⟨S8x4096x512, .f32⟩
  | 31 => ⟨S8x4096x512, .f32⟩
  | 32 => ⟨S8x4096x512, .f32⟩
  | 33 => ⟨S8x4096x512, .f32⟩
  | 34 => ⟨S31x1x512, .f32⟩
  | 35 => ⟨S1x1x512, .f32⟩
  | 36 => ⟨S1x512, .f32⟩
  | 37 => ⟨S1x1x512, .f32⟩
  | 38 => ⟨S8x4096x512, .f32⟩
  | 39 => ⟨S8x4096x512, .f32⟩
  | 40 => ⟨S8x4096x512, .f32⟩
  | 41 => ⟨S8x4096x512, .f32⟩
  | 42 => ⟨S31x1x512, .f32⟩
  | 43 => ⟨S1x1x512, .f32⟩
  | 44 => ⟨S1x512, .f32⟩
  | 45 => ⟨S1x1x512, .f32⟩
  | 46 => ⟨S8x4096x512, .f32⟩
  | 47 => ⟨S8x4096x512, .f32⟩
  | 48 => ⟨S8x4096x512, .f32⟩
  | 49 => ⟨S8x4096x512, .f32⟩
  | 50 => ⟨S31x1x512, .f32⟩
  | 51 => ⟨S1x1x512, .f32⟩
  | 52 => ⟨S1x512, .f32⟩
  | 53 => ⟨S1x1x512, .f32⟩
  | 54 => ⟨S8x4096x512, .f32⟩
  | 55 => ⟨S8x4096x512, .f32⟩
  | 56 => ⟨S8x4096x512, .f32⟩
  | 57 => ⟨S8x4096x512, .f32⟩
  | 58 => ⟨S31x1x512, .f32⟩
  | 59 => ⟨S1x1x512, .f32⟩
  | 60 => ⟨S1x512, .f32⟩
  | 61 => ⟨S1x1x512, .f32⟩
  | 62 => ⟨S8x4096x512, .f32⟩
  | 63 => ⟨S8x4096x512, .f32⟩
  | 64 => ⟨S8x4096x512, .f32⟩
  | 65 => ⟨S8x4096x512, .f32⟩
  | 66 => ⟨S31x1x512, .f32⟩
  | 67 => ⟨S1x1x512, .f32⟩
  | 68 => ⟨S1x512, .f32⟩
  | 69 => ⟨S1x1x512, .f32⟩
  | 70 => ⟨S8x4096x512, .f32⟩
  | 71 => ⟨S8x4096x512, .f32⟩
  | 72 => ⟨S8x4096x512, .f32⟩
  | 73 => ⟨S8x4096x512, .f32⟩
  | 74 => ⟨S31x1x512, .f32⟩
  | 75 => ⟨S1x1x512, .f32⟩
  | 76 => ⟨S1x512, .f32⟩
  | 77 => ⟨S1x1x512, .f32⟩
  | 78 => ⟨S8x4096x512, .f32⟩
  | 79 => ⟨S8x4096x512, .f32⟩
  | 80 => ⟨S8x4096x512, .f32⟩
  | 81 => ⟨S8x4096x512, .f32⟩
  | 82 => ⟨S31x1x512, .f32⟩
  | 83 => ⟨S1x1x512, .f32⟩
  | 84 => ⟨S1x512, .f32⟩
  | 85 => ⟨S1x1x512, .f32⟩
  | 86 => ⟨S8x4096x512, .f32⟩
  | 87 => ⟨S8x4096x512, .f32⟩
  | 88 => ⟨S8x4096x512, .f32⟩
  | 89 => ⟨S8x4096x512, .f32⟩
  | 90 => ⟨S31x1x512, .f32⟩
  | 91 => ⟨S1x1x512, .f32⟩
  | 92 => ⟨S1x512, .f32⟩
  | 93 => ⟨S1x1x512, .f32⟩
  | 94 => ⟨S8x4096x512, .f32⟩
  | 95 => ⟨S8x4096x512, .f32⟩
  | 96 => ⟨S8x4096x512, .f32⟩
  | 97 => ⟨S8x4096x512, .f32⟩
  | 98 => ⟨S31x1x512, .f32⟩
  | 99 => ⟨S1x1x512, .f32⟩
  | 100 => ⟨S1x512, .f32⟩
  | 101 => ⟨S1x1x512, .f32⟩
  | 102 => ⟨S8x4096x512, .f32⟩
  | 103 => ⟨S8x4096x512, .f32⟩
  | 104 => ⟨S8x4096x512, .f32⟩
  | 105 => ⟨S8x4096x512, .f32⟩
  | 106 => ⟨S31x1x512, .f32⟩
  | 107 => ⟨S1x1x512, .f32⟩
  | 108 => ⟨S1x512, .f32⟩
  | 109 => ⟨S1x1x512, .f32⟩
  | 110 => ⟨S8x4096x512, .f32⟩
  | 111 => ⟨S8x4096x512, .f32⟩
  | 112 => ⟨S8x4096x512, .f32⟩
  | 113 => ⟨S8x4096x512, .f32⟩
  | 114 => ⟨S31x1x512, .f32⟩
  | 115 => ⟨S1x1x512, .f32⟩
  | 116 => ⟨S1x512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S31x1x512, .f32⟩
  | 123 => ⟨S1x1x512, .f32⟩
  | 124 => ⟨S1x512, .f32⟩
  | 125 => ⟨S1x1x512, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S8x4096x512, .f32⟩
  | 2 => ⟨S31x1x512, .f32⟩
  | 3 => ⟨S1x1x512, .f32⟩
  | 4 => ⟨S1x512, .f32⟩
  | 5 => ⟨S1x1x512, .f32⟩
  | 6 => ⟨S8x4096x512, .f32⟩
  | 7 => ⟨S8x4096x512, .f32⟩
  | 8 => ⟨S8x4096x512, .f32⟩
  | 9 => ⟨S512, .f32⟩
  | 10 => ⟨S1x1x512, .f32⟩
  | 11 => ⟨S8x4096x512, .f32⟩
  | 12 => ⟨S8x4096x512, .f32⟩
  | 13 => ⟨S512, .f32⟩
  | 14 => ⟨S512, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S8x4096x512, .f32⟩
  | 22 => ⟨S8x4096x512, .f32⟩
  | 23 => ⟨S8x4096x512, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S8x4096x512, .f32⟩
  | 31 => ⟨S8x4096x512, .f32⟩
  | 32 => ⟨S_, .f32⟩
  | 33 => ⟨S8x4096x1, .f32⟩
  | 34 => ⟨S8x4096x1, .f32⟩
  | 35 => ⟨S8x4096x1, .f32⟩
  | 36 => ⟨S8x4096x512, .f32⟩
  | 37 => ⟨S8x4096x512, .f32⟩
  | 38 => ⟨S1x1x512, .f32⟩
  | 39 => ⟨S8x4096x512, .f32⟩
  | 40 => ⟨S8x4096x512, .f32⟩
  | 41 => ⟨S1x1x512, .f32⟩
  | 42 => ⟨S8x4096x512, .f32⟩
  | 43 => ⟨S8x4096x512, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S_, .f32⟩
  | 50 => ⟨S8x4096x512, .f32⟩
  | 51 => ⟨S8x4096x512, .f32⟩
  | 52 => ⟨S8x4096x512, .f32⟩
  | 53 => ⟨S8x4096x512, .f32⟩
  | 54 => ⟨S8x4096x1024, .f32⟩
  | 55 => ⟨S1024x1024, .f32⟩
  | 56 => ⟨S8x4096x1024, .f32⟩
  | 57 => ⟨S8x4096x1024, .f32⟩
  | 58 => ⟨S1024, .f32⟩
  | 59 => ⟨S8x4096x1024, .f32⟩
  | 60 => ⟨S_, .f32⟩
  | 61 => ⟨S8x4096, .f32⟩
  | 62 => ⟨S8x4096x1, .f32⟩
  | 63 => ⟨S_, .f32⟩
  | 64 => ⟨S8x4096x1, .f32⟩
  | 65 => ⟨S8x4096x1, .f32⟩
  | 66 => ⟨S_, .f32⟩
  | 67 => ⟨S8x4096x1, .f32⟩
  | 68 => ⟨S8x4096x1, .f32⟩
  | 69 => ⟨S8x4096x1, .f32⟩
  | 70 => ⟨S8x4096x1024, .f32⟩
  | 71 => ⟨S8x4096x1024, .f32⟩
  | 72 => ⟨S1x1x1024, .f32⟩
  | 73 => ⟨S8x4096x1024, .f32⟩
  | 74 => ⟨S8x4096x1024, .f32⟩
  | 75 => ⟨S1024x4096, .f32⟩
  | 76 => ⟨S8x4096x4096, .f32⟩
  | 77 => ⟨S_, .f32⟩
  | 78 => ⟨S8x4096x4096, .f32⟩
  | 79 => ⟨S8x4096x4096, .f32⟩
  | 80 => ⟨S8x4096x4096, .f32⟩
  | 81 => ⟨S4096x1024, .f32⟩
  | 82 => ⟨S8x4096x1024, .f32⟩
  | 83 => ⟨S8x4096x1024, .f32⟩
  | 84 => ⟨S8x4096x1024, .f32⟩
  | 85 => ⟨S_, .f32⟩
  | 86 => ⟨S8x4096, .f32⟩
  | 87 => ⟨S8x4096x1, .f32⟩
  | 88 => ⟨S_, .f32⟩
  | 89 => ⟨S8x4096x1, .f32⟩
  | 90 => ⟨S8x4096x1, .f32⟩
  | 91 => ⟨S_, .f32⟩
  | 92 => ⟨S8x4096x1, .f32⟩
  | 93 => ⟨S8x4096x1, .f32⟩
  | 94 => ⟨S8x4096x1, .f32⟩
  | 95 => ⟨S8x4096x1024, .f32⟩
  | 96 => ⟨S8x4096x1024, .f32⟩
  | 97 => ⟨S1x1x1024, .f32⟩
  | 98 => ⟨S8x4096x1024, .f32⟩
  | 99 => ⟨S8x4096x1024, .f32⟩
  | 100 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_cst_0 : Ref sig .tc := ⟨.hbm, 271, rfl⟩
abbrev main_v256 : Ref sig .tc := ⟨.hbm, 272, rfl⟩
abbrev main_v257 : Ref sig .tc := ⟨.hbm, 273, rfl⟩
abbrev main_cst_1 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_cst_2 : Ref sig .tc := ⟨.hbm, 280, rfl⟩
abbrev main_v263 : Ref sig .tc := ⟨.hbm, 281, rfl⟩
abbrev main_v264 : Ref sig .tc := ⟨.hbm, 282, rfl⟩
abbrev main_cst_3 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_cst_4 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_cst_5 : Ref sig .tc := ⟨.hbm, 302, rfl⟩
abbrev main_v282 : Ref sig .tc := ⟨.hbm, 303, rfl⟩
abbrev main_v283 : Ref sig .tc := ⟨.hbm, 304, rfl⟩
abbrev main_cst_6 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_cst_7 : Ref sig .tc := ⟨.hbm, 316, rfl⟩
abbrev main_v294 : Ref sig .tc := ⟨.hbm, 317, rfl⟩
abbrev main_v295 : Ref sig .tc := ⟨.hbm, 318, rfl⟩
abbrev main_cst_8 : Ref sig .tc := ⟨.hbm, 319, rfl⟩
abbrev main_v296 : Ref sig .tc := ⟨.hbm, 320, rfl⟩
abbrev main_v297 : Ref sig .tc := ⟨.hbm, 321, rfl⟩
abbrev main_cst_9 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_cst_10 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_v314 : Ref sig .tc := ⟨.hbm, 340, rfl⟩
abbrev main_cst_11 : Ref sig .tc := ⟨.hbm, 341, rfl⟩
abbrev main_v315 : Ref sig .tc := ⟨.hbm, 342, rfl⟩
abbrev main_v316 : Ref sig .tc := ⟨.hbm, 343, rfl⟩
abbrev main_cst_12 : Ref sig .tc := ⟨.hbm, 344, rfl⟩
abbrev main_v317 : Ref sig .tc := ⟨.hbm, 345, rfl⟩
abbrev main_v318 : Ref sig .tc := ⟨.hbm, 346, rfl⟩
abbrev main_cst_13 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩

abbrev nD : Nat := 1
abbrev τ : Topo := Topo.v7x

variable {F : FTy → Type} [FloatOps F]
-- ==== Kernel2.lean ====
abbrev S32768x1024 : Shape := ⟨2, ![32768, 1024]⟩
abbrev S4x8x256x128 : Shape := ⟨4, ![4, 8, 256, 128]⟩
abbrev S4x32768x128 : Shape := ⟨3, ![4, 32768, 128]⟩
abbrev S4x32768x256 : Shape := ⟨3, ![4, 32768, 256]⟩
abbrev S32768x128 : Shape := ⟨2, ![32768, 128]⟩
abbrev S256 : Shape := ⟨1, ![256]⟩
abbrev S1x256 : Shape := ⟨2, ![1, 256]⟩
abbrev S64 : Shape := ⟨1, ![64]⟩
abbrev S64x1 : Shape := ⟨2, ![64, 1]⟩
abbrev S_ : Shape := ⟨0, ![]⟩
abbrev S64x256 : Shape := ⟨2, ![64, 256]⟩
abbrev S1536 : Shape := ⟨1, ![1536]⟩
abbrev S128 : Shape := ⟨1, ![128]⟩
abbrev S128x1 : Shape := ⟨2, ![128, 1]⟩
abbrev S1x1536 : Shape := ⟨2, ![1, 1536]⟩
abbrev S128x1536 : Shape := ⟨2, ![128, 1536]⟩
abbrev S32768x512 : Shape := ⟨2, ![32768, 512]⟩
abbrev S256x512 : Shape := ⟨2, ![256, 512]⟩
abbrev S1x1x256x128 : Shape := ⟨4, ![1, 1, 256, 128]⟩
abbrev S1x4096x128 : Shape := ⟨3, ![1, 4096, 128]⟩
abbrev S1x4096x256 : Shape := ⟨3, ![1, 4096, 256]⟩
abbrev S256x128 : Shape := ⟨2, ![256, 128]⟩
abbrev S128x768 : Shape := ⟨2, ![128, 768]⟩
abbrev S256x256 : Shape := ⟨2, ![256, 256]⟩
abbrev S1024x128 : Shape := ⟨2, ![1024, 128]⟩
abbrev S1024x256 : Shape := ⟨2, ![1024, 256]⟩
abbrev S1024x512 : Shape := ⟨2, ![1024, 512]⟩
abbrev S1024x768 : Shape := ⟨2, ![1024, 768]⟩
abbrev S9 : Shape := ⟨1, ![9]⟩
abbrev S1x768x128 : Shape := ⟨3, ![1, 768, 128]⟩
abbrev S768x128 : Shape := ⟨2, ![768, 128]⟩
abbrev S8x256 : Shape := ⟨2, ![8, 256]⟩
abbrev S1x8x256 : Shape := ⟨3, ![1, 8, 256]⟩
abbrev S1 : Shape := ⟨1, ![1]⟩
abbrev S1x1x1 : Shape := ⟨3, ![1, 1, 1]⟩
abbrev S128x256 : Shape := ⟨2, ![128, 256]⟩
abbrev S128x128 : Shape := ⟨2, ![128, 128]⟩
abbrev S1x512x128 : Shape := ⟨3, ![1, 512, 128]⟩
abbrev S512x128 : Shape := ⟨2, ![512, 128]⟩
abbrev S64x768 : Shape := ⟨2, ![64, 768]⟩
abbrev S512x768 : Shape := ⟨2, ![512, 768]⟩
abbrev S1x768x256 : Shape := ⟨3, ![1, 768, 256]⟩
abbrev S768x256 : Shape := ⟨2, ![768, 256]⟩
abbrev S512x256 : Shape := ⟨2, ![512, 256]⟩
abbrev S1x512x256 : Shape := ⟨3, ![1, 512, 256]⟩
abbrev S64x512 : Shape := ⟨2, ![64, 512]⟩
abbrev S64x128 : Shape := ⟨2, ![64, 128]⟩
abbrev S1x256x256 : Shape := ⟨3, ![1, 256, 256]⟩
abbrev S256x768 : Shape := ⟨2, ![256, 768]⟩
abbrev S256x1 : Shape := ⟨2, ![256, 1]⟩

abbrev nBuf : Space → Nat
  | .hbm => 194
  | .vmem => 32
  | .smem => 1
  | _ => 0

abbrev hbmTy0_0 (i : Nat) : BufTy := match i % 128 with
  | 0 => ⟨S32768x1024, .bf16⟩
  | 1 => ⟨S4x8x256x128, .bf16⟩
  | 2 => ⟨S4x32768x128, .bf16⟩
  | 3 => ⟨S4x32768x256, .bf16⟩
  | 4 => ⟨S32768x128, .f32⟩
  | 5 => ⟨S256, .i32⟩
  | 6 => ⟨S1x256, .i32⟩
  | 7 => ⟨S64, .i32⟩
  | 8 => ⟨S64x1, .i32⟩
  | 9 => ⟨S_, .i32⟩
  | 10 => ⟨S1x256, .i32⟩
  | 11 => ⟨S1x256, .i32⟩
  | 12 => ⟨S_, .i32⟩
  | 13 => ⟨S64x1, .i32⟩
  | 14 => ⟨S64x1, .i32⟩
  | 15 => ⟨S_, .i32⟩
  | 16 => ⟨S64x1, .i32⟩
  | 17 => ⟨S64x1, .i32⟩
  | 18 => ⟨S64x256, .i32⟩
  | 19 => ⟨S64x256, .i32⟩
  | 20 => ⟨S64x256, .i1⟩
  | 21 => ⟨S_, .i32⟩
  | 22 => ⟨S1x256, .i32⟩
  | 23 => ⟨S1x256, .i32⟩
  | 24 => ⟨S_, .i32⟩
  | 25 => ⟨S1x256, .i32⟩
  | 26 => ⟨S1x256, .i32⟩
  | 27 => ⟨S_, .i32⟩
  | 28 => ⟨S64x1, .i32⟩
  | 29 => ⟨S64x1, .i32⟩
  | 30 => ⟨S64x256, .i32⟩
  | 31 => ⟨S64x256, .i32⟩
  | 32 => ⟨S64x256, .i1⟩
  | 33 => ⟨S64x256, .i1⟩
  | 34 => ⟨S64x256, .bf16⟩
  | 35 => ⟨S1536, .i32⟩
  | 36 => ⟨S_, .i32⟩
  | 37 => ⟨S_, .i32⟩
  | 38 => ⟨S1536, .i32⟩
  | 39 => ⟨S1536, .i32⟩
  | 40 => ⟨S1536, .i32⟩
  | 41 => ⟨S_, .i32⟩
  | 42 => ⟨S1536, .i32⟩
  | 43 => ⟨S1536, .i1⟩
  | 44 => ⟨S1536, .i32⟩
  | 45 => ⟨S1536, .i32⟩
  | 46 => ⟨S_, .i32⟩
  | 47 => ⟨S1536, .i32⟩
  | 48 => ⟨S1536, .i1⟩
  | 49 => ⟨S1536, .i1⟩
  | 50 => ⟨S_, .i32⟩
  | 51 => ⟨S1536, .i32⟩
  | 52 => ⟨S1536, .i32⟩
  | 53 => ⟨S1536, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S1536, .i32⟩
  | 61 => ⟨S1536, .i32⟩
  | 62 => ⟨S_, .i32⟩
  | 63 => ⟨S1536, .i32⟩
  | 64 => ⟨S1536, .i1⟩
  | 65 => ⟨S_, .i32⟩
  | 66 => ⟨S1536, .i32⟩
  | 67 => ⟨S1536, .i1⟩
  | 68 => ⟨S_, .i32⟩
  | 69 => ⟨S_, .i1⟩
  | 70 => ⟨S1536, .i1⟩
  | 71 => ⟨S1536, .i1⟩
  | 72 => ⟨S1536, .i1⟩
  | 73 => ⟨S1536, .i32⟩
  | 74 => ⟨S1536, .i32⟩
  | 75 => ⟨S1536, .i32⟩
  | 76 => ⟨S_, .i32⟩
  | 77 => ⟨S_, .i32⟩
  | 78 => ⟨S1536, .i32⟩
  | 79 => ⟨S1536, .i32⟩
  | 80 => ⟨S1536, .i32⟩
  | 81 => ⟨S_, .i32⟩
  | 82 => ⟨S1536, .i32⟩
  | 83 => ⟨S1536, .i1⟩
  | 84 => ⟨S1536, .i32⟩
  | 85 => ⟨S1536, .i32⟩
  | 86 => ⟨S_, .i32⟩
  | 87 => ⟨S1536, .i32⟩
  | 88 => ⟨S1536, .i1⟩
  | 89 => ⟨S1536, .i1⟩
  | 90 => ⟨S_, .i32⟩
  | 91 => ⟨S1536, .i32⟩
  | 92 => ⟨S1536, .i32⟩
  | 93 => ⟨S1536, .i32⟩
  | 94 => ⟨S_, .i32⟩
  | 95 => ⟨S_, .i32⟩
  | 96 => ⟨S1536, .i32⟩
  | 97 => ⟨S1536, .i32⟩
  | 98 => ⟨S1536, .i32⟩
  | 99 => ⟨S_, .i32⟩
  | 100 => ⟨S1536, .i32⟩
  | 101 => ⟨S1536, .i1⟩
  | 102 => ⟨S1536, .i32⟩
  | 103 => ⟨S1536, .i32⟩
  | 104 => ⟨S_, .i32⟩
  | 105 => ⟨S1536, .i32⟩
  | 106 => ⟨S1536, .i1⟩
  | 107 => ⟨S1536, .i1⟩
  | 108 => ⟨S_, .i32⟩
  | 109 => ⟨S1536, .i32⟩
  | 110 => ⟨S1536, .i32⟩
  | 111 => ⟨S1536, .i32⟩
  | 112 => ⟨S_, .i32⟩
  | 113 => ⟨S_, .i32⟩
  | 114 => ⟨S1536, .i32⟩
  | 115 => ⟨S1536, .i32⟩
  | 116 => ⟨S1536, .i32⟩
  | 117 => ⟨S_, .i32⟩
  | 118 => ⟨S1536, .i32⟩
  | 119 => ⟨S1536, .i1⟩
  | 120 => ⟨S1536, .i32⟩
  | 121 => ⟨S1536, .i32⟩
  | 122 => ⟨S_, .i32⟩
  | 123 => ⟨S1536, .i32⟩
  | 124 => ⟨S1536, .i1⟩
  | 125 => ⟨S1536, .i1⟩
  | 126 => ⟨S_, .i32⟩
  | 127 => ⟨S1536, .i32⟩
  | _ => ⟨S32768x1024, .bf16⟩

abbrev hbmTy0_1 (i : Nat) : BufTy := match i % 128 with
  | 0 => ⟨S1536, .i32⟩
  | 1 => ⟨S1536, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S1536, .i32⟩
  | 9 => ⟨S1536, .i32⟩
  | 10 => ⟨S_, .i32⟩
  | 11 => ⟨S1536, .i32⟩
  | 12 => ⟨S1536, .i1⟩
  | 13 => ⟨S_, .i32⟩
  | 14 => ⟨S1536, .i32⟩
  | 15 => ⟨S1536, .i1⟩
  | 16 => ⟨S_, .i32⟩
  | 17 => ⟨S_, .i1⟩
  | 18 => ⟨S1536, .i1⟩
  | 19 => ⟨S1536, .i1⟩
  | 20 => ⟨S1536, .i1⟩
  | 21 => ⟨S1536, .i32⟩
  | 22 => ⟨S1536, .i32⟩
  | 23 => ⟨S1536, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S1536, .i32⟩
  | 31 => ⟨S1536, .i32⟩
  | 32 => ⟨S_, .i32⟩
  | 33 => ⟨S1536, .i32⟩
  | 34 => ⟨S1536, .i1⟩
  | 35 => ⟨S_, .i32⟩
  | 36 => ⟨S1536, .i32⟩
  | 37 => ⟨S1536, .i1⟩
  | 38 => ⟨S_, .i32⟩
  | 39 => ⟨S_, .i1⟩
  | 40 => ⟨S1536, .i1⟩
  | 41 => ⟨S1536, .i1⟩
  | 42 => ⟨S1536, .i1⟩
  | 43 => ⟨S1536, .i32⟩
  | 44 => ⟨S1536, .i32⟩
  | 45 => ⟨S1536, .i32⟩
  | 46 => ⟨S128, .i32⟩
  | 47 => ⟨S128x1, .i32⟩
  | 48 => ⟨S_, .i32⟩
  | 49 => ⟨S1536, .i32⟩
  | 50 => ⟨S1536, .i32⟩
  | 51 => ⟨S_, .i32⟩
  | 52 => ⟨S1536, .i32⟩
  | 53 => ⟨S1536, .i32⟩
  | 54 => ⟨S1536, .i32⟩
  | 55 => ⟨S_, .i32⟩
  | 56 => ⟨S1536, .i32⟩
  | 57 => ⟨S1536, .i32⟩
  | 58 => ⟨S1536, .i32⟩
  | 59 => ⟨S1536, .i32⟩
  | 60 => ⟨S1x1536, .i32⟩
  | 61 => ⟨S128x1536, .i32⟩
  | 62 => ⟨S128x1536, .i32⟩
  | 63 => ⟨S128x1536, .i1⟩
  | 64 => ⟨S128x1536, .bf16⟩
  | 65 => ⟨S32768x512, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x256, .bf16⟩
  | .local _ .vmem, ⟨13, _⟩ => ⟨S1x4096x256, .bf16⟩
  | .local _ .vmem, ⟨14, _⟩ => ⟨S256x128, .f32⟩
  | .local _ .vmem, ⟨15, _⟩ => ⟨S256x128, .f32⟩
  | .local _ .vmem, ⟨16, _⟩ => ⟨S64x256, .bf16⟩
  | .local _ .vmem, ⟨17, _⟩ => ⟨S128x768, .bf16⟩
  | .local _ .vmem, ⟨18, _⟩ => ⟨S128x768, .bf16⟩
  | .local _ .vmem, ⟨19, _⟩ => ⟨S256x256, .bf16⟩
  | .local _ .vmem, ⟨20, _⟩ => ⟨S256x256, .bf16⟩
  | .local _ .vmem, ⟨21, _⟩ => ⟨S1024x128, .bf16⟩
  | .local _ .vmem, ⟨22, _⟩ => ⟨S1024x128, .f32⟩
  | .local _ .vmem, ⟨23, _⟩ => ⟨S1024x256, .f32⟩
  | .local _ .vmem, ⟨24, _⟩ => ⟨S1024x512, .f32⟩
  | .local _ .vmem, ⟨25, _⟩ => ⟨S1024x512, .f32⟩
  | .local _ .vmem, ⟨26, _⟩ => ⟨S1024x512, .bf16⟩
  | .local _ .vmem, ⟨27, _⟩ => ⟨S1024x512, .bf16⟩
  | .local _ .vmem, ⟨28, _⟩ => ⟨S1024x768, .f32⟩
  | .local _ .vmem, ⟨29, _⟩ => ⟨S1024x768, .bf16⟩
  | .local _ .vmem, ⟨30, _⟩ => ⟨S1024x256, .f32⟩
  | .local _ .vmem, ⟨31, _⟩ => ⟨S1024x256, .bf16⟩
  | .local _ .smem, ⟨0, _⟩ => ⟨S9, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v25 : Ref sig .tc := ⟨.hbm, 53, rfl⟩
abbrev main_c_6 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v26 : Ref sig .tc := ⟨.hbm, 75, rfl⟩
abbrev main_c_7 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_c : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_0 : Ref sig .tc := ⟨.hbm, 90, rfl⟩
abbrev main_call2_v12 : Ref sig .tc := ⟨.hbm, 91, rfl⟩
abbrev main_call2_v13 : Ref sig .tc := ⟨.hbm, 92, rfl⟩
abbrev main_v27 : Ref sig .tc := ⟨.hbm, 93, rfl⟩
abbrev main_c_8 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v28 : Ref sig .tc := ⟨.hbm, 111, rfl⟩
abbrev main_c_9 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_c : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_0 : Ref sig .tc := ⟨.hbm, 126, rfl⟩
abbrev main_call4_v12 : Ref sig .tc := ⟨.hbm, 127, rfl⟩
abbrev main_call4_v13 : Ref sig .tc := ⟨.hbm, 128, rfl⟩
abbrev main_v29 : Ref sig .tc := ⟨.hbm, 129, rfl⟩
abbrev main_c_10 : Ref sig .tc := ⟨.hbm, 130, rfl⟩
abbrev main_call5_v0 : Ref sig .tc := ⟨.hbm, 131, rfl⟩
abbrev main_call5_c : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_c_1 : Ref sig .tc := ⟨.hbm, 138, rfl⟩
abbrev main_call5_v5 : Ref sig .tc := ⟨.hbm, 139, rfl⟩
abbrev main_call5_v6 : Ref sig .tc := ⟨.hbm, 140, rfl⟩
abbrev main_call5_c_2 : Ref sig .tc := ⟨.hbm, 141, rfl⟩
abbrev main_call5_v7 : Ref sig .tc := ⟨.hbm, 142, rfl⟩
abbrev main_call5_v8 : Ref sig .tc := ⟨.hbm, 143, rfl⟩
abbrev main_call5_c_3 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_v30 : Ref sig .tc := ⟨.hbm, 151, rfl⟩
abbrev main_c_11 : Ref sig .tc := ⟨.hbm, 152, rfl⟩
abbrev main_call6_v0 : Ref sig .tc := ⟨.hbm, 153, rfl⟩
abbrev main_call6_c : Ref sig .tc := ⟨.hbm, 154, rfl⟩
abbrev main_call6_v1 : Ref sig .tc := ⟨.hbm, 155, rfl⟩
abbrev main_call6_c_0 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_call6_c_1 : Ref sig .tc := ⟨.hbm, 160, rfl⟩
abbrev main_call6_v5 : Ref sig .tc := ⟨.hbm, 161, rfl⟩
abbrev main_call6_v6 : Ref sig .tc := ⟨.hbm, 162, rfl⟩
abbrev main_call6_c_2 : Ref sig .tc := ⟨.hbm, 163, rfl⟩
abbrev main_call6_v7 : Ref sig .tc := ⟨.hbm, 164, rfl⟩
abbrev main_call6_v8 : Ref sig .tc := ⟨.hbm, 165, rfl⟩
abbrev main_call6_c_3 : Ref sig .tc := ⟨.hbm, 166, rfl⟩
abbrev main_call6_v9 : Ref sig .tc := ⟨.hbm, 167, rfl⟩
abbrev main_call6_v10 : Ref sig .tc := ⟨.hbm, 168, rfl⟩
abbrev main_call6_v11 : Ref sig .tc := ⟨.hbm, 169, rfl⟩
abbrev main_call6_v12 : Ref sig .tc := ⟨.hbm, 170, rfl⟩
abbrev main_call6_v13 : Ref sig .tc := ⟨.hbm, 171, rfl⟩
abbrev main_call6_v14 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_c_12 : Ref sig .tc := ⟨.hbm, 176, rfl⟩
abbrev main_v34 : Ref sig .tc := ⟨.hbm, 177, rfl⟩
abbrev main_v35 : Ref sig .tc := ⟨.hbm, 178, rfl⟩
abbrev main_c_13 : Ref sig .tc := ⟨.hbm, 179, rfl⟩
abbrev main_v36 : Ref sig .tc := ⟨.hbm, 180, rfl⟩
abbrev main_v37 : Ref sig .tc := ⟨.hbm, 181, rfl⟩
abbrev main_v38 : Ref sig .tc := ⟨.hbm, 182, rfl⟩
abbrev main_c_14 : Ref sig .tc := ⟨.hbm, 183, rfl⟩
abbrev main_v39 : Ref sig .tc := ⟨.hbm, 184, rfl⟩
abbrev main_v40 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_v47 : Ref sig .tc := ⟨.hbm, 192, rfl⟩
abbrev main_v48 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 2, 16], ![false, false, false]⟩

def k0_mult1 (i : grid0.Coords) : BitVec 32 :=
  let arg2 : BitVec 32 := BitVec.ofNat 32 (i 2).val
  let c4_i32 : BitVec 32 := 4#32
  let v1 : BitVec 32 := Scalar.muli arg2 c4_i32
  let c8_i32 : BitVec 32 := 8#32
  let v14 : BitVec 32 := Scalar.subi v1 c8_i32
  let c0_i32_6 : BitVec 32 := 0#32
  let v15 : BitVec 32 := Scalar.maxsi v14 c0_i32_6
  let c64_i32 : BitVec 32 := 64#32
  let v16 : BitVec 32 := Scalar.muli v15 c64_i32
  v16
def k0_off1 (i : grid0.Coords) : Fin 3 → Nat :=
  let c0_186 : Index := 0#32
  let arg2 : BitVec 32 := BitVec.ofNat 32 (i 2).val
  let c4_i32 : BitVec 32 := 4#32
  let v1 : BitVec 32 := Scalar.muli arg2 c4_i32
  let c8_i32 : BitVec 32 := 8#32
  let v14 : BitVec 32 := Scalar.subi v1 c8_i32
  let c0_i32_6 : BitVec 32 := 0#32
  let v15 : BitVec 32 := Scalar.maxsi v14 c0_i32_6
  let c64_i32 : BitVec 32 := 64#32
  let v16 : BitVec 32 := Scalar.muli v15 c64_i32
  let v17 : BitVec 32 := v16
  let v518 : Index := Scalar.indexCast v17
  let c0_187 : Index := 0#32
  ![0, v518.toNat, 0]
def k0_off2 (i : grid0.Coords) (v4494 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let v4506 : Index := Scalar.indexCast v4499
  ![v4506.toNat]

def k0_chk1 (i : grid0.Coords) (v4494 : BitVec 1) : Prop :=
  (∀ a, (k0_off2 i v4494) a + S1.size a ≤ S9.size a)
theorem k0_off2_inb : ∀ (i : grid0.Coords) (v4494 : BitVec 1) (k0_hw1 : k0_chk1 i v4494), ∀ a, (k0_off2 i v4494) a + S1.size a ≤ S9.size a := fun i v4494 k0_hw1 => k0_hw1

def k0_off3 (i : grid0.Coords) (v4494 : BitVec 1) (v4505 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let v4518 : Index := Scalar.indexCast v4511
  ![v4518.toNat]

def k0_chk2 (i : grid0.Coords) (v4494 : BitVec 1) (v4505 : BitVec 1) : Prop :=
  (∀ a, (k0_off3 i v4494 v4505) a + S1.size a ≤ S9.size a)
theorem k0_off3_inb : ∀ (i : grid0.Coords) (v4494 : BitVec 1) (v4505 : BitVec 1) (k0_hw2 : k0_chk2 i v4494 v4505), ∀ a, (k0_off3 i v4494 v4505) a + S1.size a ≤ S9.size a := fun i v4494 v4505 k0_hw2 => k0_hw2

def k0_off4 (i : grid0.Coords) (v4494 : BitVec 1) (v4505 : BitVec 1) (v4517 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let v4530 : Index := Scalar.indexCast v4523
  ![v4530.toNat]

def k0_chk3 (i : grid0.Coords) (v4494 : BitVec 1) (v4505 : BitVec 1) (v4517 : BitVec 1) : Prop :=
  (∀ a, (k0_off4 i v4494 v4505 v4517) a + S1.size a ≤ S9.size a)
theorem k0_off4_inb : ∀ (i : grid0.Coords) (v4494 : BitVec 1) (v4505 : BitVec 1) (v4517 : BitVec 1) (k0_hw3 : k0_chk3 i v4494 v4505 v4517), ∀ a, (k0_off4 i v4494 v4505 v4517) a + S1.size a ≤ S9.size a := fun i v4494 v4505 v4517 k0_hw3 => k0_hw3

def k0_off5 (i : grid0.Coords) (v4494 : BitVec 1) (v4505 : BitVec 1) (v4517 : BitVec 1) (v4529 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let v4542 : Index := Scalar.indexCast v4535
  ![v4542.toNat]

def k0_chk4 (i : grid0.Coords) (v4494 : BitVec 1) (v4505 : BitVec 1) (v4517 : BitVec 1) (v4529 : BitVec 1) : Prop :=
  (∀ a, (k0_off5 i v4494 v4505 v4517 v4529) a + S1.size a ≤ S9.size a)
theorem k0_off5_inb : ∀ (i : grid0.Coords) (v4494 : BitVec 1) (v4505 : BitVec 1) (v4517 : BitVec 1) (v4529 : BitVec 1) (k0_hw4 : k0_chk4 i v4494 v4505 v4517 v4529), ∀ a, (k0_off5 i v4494 v4505 v4517 v4529) a + S1.size a ≤ S9.size a := fun i v4494 v4505 v4517 v4529 k0_hw4 => k0_hw4

def k0_off6 (i : grid0.Coords) (v4494 : BitVec 1) (v4505 : BitVec 1) (v4517 : BitVec 1) (v4529 : BitVec 1) (v4541 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let v4554 : Index := Scalar.indexCast v4547
  ![v4554.toNat]

def k0_chk5 (i : grid0.Coords) (v4494 : BitVec 1) (v4505 : BitVec 1) (v4517 : BitVec 1) (v4529 : BitVec 1) (v4541 : BitVec 1) : Prop :=
  (∀ a, (k0_off6 i v4494 v4505 v4517 v4529 v4541) a + S1.size a ≤ S9.size a)
theorem k0_off6_inb : ∀ (i : grid0.Coords) (v4494 : BitVec 1) (v4505 : BitVec 1) (v4517 : BitVec 1) (v4529 : BitVec 1) (v4541 : BitVec 1) (k0_hw5 : k0_chk5 i v4494 v4505 v4517 v4529 v4541), ∀ a, (k0_off6 i v4494 v4505 v4517 v4529 v4541) a + S1.size a ≤ S9.size a := fun i v4494 v4505 v4517 v4529 v4541 k0_hw5 => k0_hw5

def k0_off7 (i : grid0.Coords) (v4494 : BitVec 1) (v4505 : BitVec 1) (v4517 : BitVec 1) (v4529 : BitVec 1) (v4541 : BitVec 1) (v4553 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let v4566 : Index := Scalar.indexCast v4559
  ![v4566.toNat]

def k0_chk6 (i : grid0.Coords) (v4494 : BitVec 1) (v4505 : BitVec 1) (v4517 : BitVec 1) (v4529 : BitVec 1) (v4541 : BitVec 1) (v4553 : BitVec 1) : Prop :=
  (∀ a, (k0_off7 i v4494 v4505 v4517 v4529 v4541 v4553) a + S1.size a ≤ S9.size a)
theorem k0_off7_inb : ∀ (i : grid0.Coords) (v4494 : BitVec 1) (v4505 : BitVec 1) (v4517 : BitVec 1) (v4529 : BitVec 1) (v4541 : BitVec 1) (v4553 : BitVec 1) (k0_hw6 : k0_chk6 i v4494 v4505 v4517 v4529 v4541 v4553), ∀ a, (k0_off7 i v4494 v4505 v4517 v4529 v4541 v4553) a + S1.size a ≤ S9.size a := fun i v4494 v4505 v4517 v4529 v4541 v4553 k0_hw6 => k0_hw6

def k0_off8 (i : grid0.Coords) (v4494 : BitVec 1) (v4505 : BitVec 1) (v4517 : BitVec 1) (v4529 : BitVec 1) (v4541 : BitVec 1) (v4553 : BitVec 1) (v4565 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let v4578 : Index := Scalar.indexCast v4571
  ![v4578.toNat]

def k0_chk7 (i : grid0.Coords) (v4494 : BitVec 1) (v4505 : BitVec 1) (v4517 : BitVec 1) (v4529 : BitVec 1) (v4541 : BitVec 1) (v4553 : BitVec 1) (v4565 : BitVec 1) : Prop :=
  (∀ a, (k0_off8 i v4494 v4505 v4517 v4529 v4541 v4553 v4565) a + S1.size a ≤ S9.size a)
theorem k0_off8_inb : ∀ (i : grid0.Coords) (v4494 : BitVec 1) (v4505 : BitVec 1) (v4517 : BitVec 1) (v4529 : BitVec 1) (v4541 : BitVec 1) (v4553 : BitVec 1) (v4565 : BitVec 1) (k0_hw7 : k0_chk7 i v4494 v4505 v4517 v4529 v4541 v4553 v4565), ∀ a, (k0_off8 i v4494 v4505 v4517 v4529 v4541 v4553 v4565) a + S1.size a ≤ S9.size a := fun i v4494 v4505 v4517 v4529 v4541 v4553 v4565 k0_hw7 => k0_hw7

def k0_off9 (i : grid0.Coords) (v4494 : BitVec 1) (v4505 : BitVec 1) (v4517 : BitVec 1) (v4529 : BitVec 1) (v4541 : BitVec 1) (v4553 : BitVec 1) (v4565 : BitVec 1) (v4577 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v4584 : Index := Scalar.indexCast v4583
  ![v4584.toNat]

def k0_mult2 (v4680 : BitVec 32) : BitVec 32 :=
  let c512_i32 : BitVec 32 := 512#32
  let v4681 : BitVec 32 := Scalar.muli v4680 c512_i32
  v4681

def k0_off10 (v4680 : BitVec 32) : Fin 3 → Nat :=
  let c0_1587 : Index := 0#32
  let c512_i32 : BitVec 32 := 512#32
  let v4681 : BitVec 32 := Scalar.muli v4680 c512_i32
  let v4682 : BitVec 32 := v4681
  let v4683 : Index := Scalar.indexCast v4682
  let c0_1588 : Index := 0#32
  ![0, v4683.toNat, 0]

def k0_chk9 (v4680 : BitVec 32) : Prop :=
  (512 ∣ (k0_mult2 v4680).toNat) ∧
  (∀ a, (k0_off10 v4680) a + S1x512x128.size a ≤ S1x4096x128.size a)
theorem k0_mult2_dvd : ∀ (v4680 : BitVec 32) (k0_hw9 : k0_chk9 v4680), 512 ∣ (k0_mult2 v4680).toNat := fun v4680 k0_hw9 => k0_hw9.1
theorem k0_off10_inb : ∀ (v4680 : BitVec 32) (k0_hw9 : k0_chk9 v4680), ∀ a, (k0_off10 v4680) a + S1x512x128.size a ≤ S1x4096x128.size a := fun v4680 k0_hw9 => k0_hw9.2

def k0_off11 (i : grid0.Coords) : Fin 3 → Nat :=
  let c0_1653 : Index := 0#32
  let arg2 : BitVec 32 := BitVec.ofNat 32 (i 2).val
  let c4_i32 : BitVec 32 := 4#32
  let v1 : BitVec 32 := Scalar.muli arg2 c4_i32
  let c8_i32 : BitVec 32 := 8#32
  let v14 : BitVec 32 := Scalar.subi v1 c8_i32
  let c0_i32_6 : BitVec 32 := 0#32
  let v15 : BitVec 32 := Scalar.maxsi v14 c0_i32_6
  let c64_i32 : BitVec 32 := 64#32
  let v16 : BitVec 32 := Scalar.muli v15 c64_i32
  let v17 : BitVec 32 := v16
  let v4843 : Index := Scalar.indexCast v17
  let c0_1654 : Index := 0#32
  ![0, v4843.toNat, 0]
@[reducible] def k0_t1_loop (i : grid0.Coords) (v4494 : BitVec 1) (v4505 : BitVec 1) (v4517 : BitVec 1) (v4529 : BitVec 1) (v4541 : BitVec 1) (v4553 : BitVec 1) (v4565 : BitVec 1) (v4577 : BitVec 1) : Scf.Loop 32 :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let c1_i32_1724 : BitVec 32 := 1#32
  ⟨c0_i32_1722, v5009, c1_i32_1724⟩
def k0_cond1 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) : BitVec 1 :=
  let c0_i32_1722 : BitVec 32 := 0#32
  let c1_i32_1724 : BitVec 32 := 1#32
  let arg26 : BitVec 32 := Scf.iv c0_i32_1722 c1_i32_1724 k0_t1
  let c2_i32_1754 : BitVec 32 := 2#32
  let c0_i32_1755 : BitVec 32 := 0#32
  let v5128 : BitVec 1 := Scalar.cmpi .eq c2_i32_1754 c0_i32_1755
  let c1_i32_1756 : BitVec 32 := 1#32
  let v5129 : BitVec 32 := Scalar.select v5128 c1_i32_1756 c2_i32_1754
  let v5130 : BitVec 32 := Scalar.remsi arg26 v5129
  let c0_i32_1758 : BitVec 32 := 0#32
  let v5132 : BitVec 1 := Scalar.cmpi .slt v5130 c0_i32_1758
  let c0_i32_1759 : BitVec 32 := 0#32
  let v5133 : BitVec 1 := Scalar.cmpi .slt v5129 c0_i32_1759
  let v5134 : BitVec 1 := Scalar.xori v5132 v5133
  let c0_i32_1757 : BitVec 32 := 0#32
  let v5131 : BitVec 1 := Scalar.cmpi .ne v5130 c0_i32_1757
  let v5135 : BitVec 1 := Scalar.andi v5134 v5131
  let v5136 : BitVec 32 := Scalar.addi v5130 v5129
  let v5137 : BitVec 32 := Scalar.select v5135 v5136 v5130
  let c0_i32_1760 : BitVec 32 := 0#32
  let v5138 : BitVec 1 := Scalar.cmpi .eq v5137 c0_i32_1760
  let v5139 : BitVec 32 := Scalar.extui v5138
  let c0_i32_1761 : BitVec 32 := 0#32
  let v5140 : BitVec 1 := Scalar.cmpi .ne v5139 c0_i32_1761
  v5140

def k0_off12 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) : Fin 1 → Nat :=
  let c0_i32_1722 : BitVec 32 := 0#32
  let c1_i32_1724 : BitVec 32 := 1#32
  let arg26 : BitVec 32 := Scf.iv c0_i32_1722 c1_i32_1724 k0_t1
  let c1_i32_1764 : BitVec 32 := 1#32
  let v5142 : BitVec 32 := Scalar.addi arg26 c1_i32_1764
  let v5143 : Index := Scalar.indexCast v5142
  ![v5143.toNat]
def k0_mult3 (v5144 : BitVec 32) : BitVec 32 :=
  let c512_i32_1765 : BitVec 32 := 512#32
  let v5145 : BitVec 32 := Scalar.muli v5144 c512_i32_1765
  v5145

def k0_off13 (v5144 : BitVec 32) : Fin 3 → Nat :=
  let c0_1766 : Index := 0#32
  let c512_i32_1765 : BitVec 32 := 512#32
  let v5145 : BitVec 32 := Scalar.muli v5144 c512_i32_1765
  let v5146 : BitVec 32 := v5145
  let v5147 : Index := Scalar.indexCast v5146
  let c0_1767 : Index := 0#32
  ![0, v5147.toNat, 0]

def k0_chk10 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5144 : BitVec 32) : Prop :=
  (∀ (k0_h1 : k0_cond1 i v4494 v4505 v4517 v4529 v4541 v4553 v4565 v4577 k0_t1 = 1#1), 512 ∣ (k0_mult3 v5144).toNat) ∧
  (∀ (k0_h1 : k0_cond1 i v4494 v4505 v4517 v4529 v4541 v4553 v4565 v4577 k0_t1 = 1#1), ∀ a, (k0_off13 v5144) a + S1x512x128.size a ≤ S1x4096x128.size a)
theorem k0_mult3_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5144 : BitVec 32) (k0_hw10 : k0_chk10 i v4494 v4505 v4517 v4529 v4541 v4553 v4565 v4577 k0_t1 v5144), ∀ (k0_h1 : k0_cond1 i v4494 v4505 v4517 v4529 v4541 v4553 v4565 v4577 k0_t1 = 1#1), 512 ∣ (k0_mult3 v5144).toNat := fun i v4494 v4505 v4517 v4529 v4541 v4553 v4565 v4577 k0_t1 v5144 k0_hw10 k0_h1 => k0_hw10.1 k0_h1
theorem k0_off13_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5144 : BitVec 32) (k0_hw10 : k0_chk10 i v4494 v4505 v4517 v4529 v4541 v4553 v4565 v4577 k0_t1 v5144), ∀ (k0_h1 : k0_cond1 i v4494 v4505 v4517 v4529 v4541 v4553 v4565 v4577 k0_t1 = 1#1), ∀ a, (k0_off13 v5144) a + S1x512x128.size a ≤ S1x4096x128.size a := fun i v4494 v4505 v4517 v4529 v4541 v4553 v4565 v4577 k0_t1 v5144 k0_hw10 k0_h1 => k0_hw10.2 k0_h1

def k0_off14 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) : Fin 1 → Nat :=
  let c0_i32_1722 : BitVec 32 := 0#32
  let c1_i32_1724 : BitVec 32 := 1#32
  let arg26 : BitVec 32 := Scf.iv c0_i32_1722 c1_i32_1724 k0_t1
  let c1_i32_1773 : BitVec 32 := 1#32
  let v5155 : BitVec 32 := Scalar.subi arg26 c1_i32_1773
  let c0_i32_1774 : BitVec 32 := 0#32
  let v5156 : BitVec 32 := Scalar.maxsi v5155 c0_i32_1774
  let v5157 : Index := Scalar.indexCast v5156
  ![v5157.toNat]
def k0_mult4 (v5158 : BitVec 32) : BitVec 32 :=
  let c512_i32_1775 : BitVec 32 := 512#32
  let v5159 : BitVec 32 := Scalar.muli v5158 c512_i32_1775
  v5159

def k0_off15 (v5158 : BitVec 32) : Fin 3 → Nat :=
  let c0_1776 : Index := 0#32
  let c512_i32_1775 : BitVec 32 := 512#32
  let v5159 : BitVec 32 := Scalar.muli v5158 c512_i32_1775
  let v5160 : BitVec 32 := v5159
  let v5161 : Index := Scalar.indexCast v5160
  let c0_1777 : Index := 0#32
  ![0, v5161.toNat, 0]

def k0_chk11 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5158 : BitVec 32) : Prop :=
  (∀ (k0_h1 : k0_cond1 i v4494 v4505 v4517 v4529 v4541 v4553 v4565 v4577 k0_t1 = 1#1), 512 ∣ (k0_mult4 v5158).toNat) ∧
  (∀ (k0_h1 : k0_cond1 i v4494 v4505 v4517 v4529 v4541 v4553 v4565 v4577 k0_t1 = 1#1), ∀ a, (k0_off15 v5158) a + S1x512x256.size a ≤ S1x4096x256.size a)
theorem k0_mult4_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5158 : BitVec 32) (k0_hw11 : k0_chk11 i v4494 v4505 v4517 v4529 v4541 v4553 v4565 v4577 k0_t1 v5158), ∀ (k0_h1 : k0_cond1 i v4494 v4505 v4517 v4529 v4541 v4553 v4565 v4577 k0_t1 = 1#1), 512 ∣ (k0_mult4 v5158).toNat := fun i v4494 v4505 v4517 v4529 v4541 v4553 v4565 v4577 k0_t1 v5158 k0_hw11 k0_h1 => k0_hw11.1 k0_h1
theorem k0_off15_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5158 : BitVec 32) (k0_hw11 : k0_chk11 i v4494 v4505 v4517 v4529 v4541 v4553 v4565 v4577 k0_t1 v5158), ∀ (k0_h1 : k0_cond1 i v4494 v4505 v4517 v4529 v4541 v4553 v4565 v4577 k0_t1 = 1#1), ∀ a, (k0_off15 v5158) a + S1x512x256.size a ≤ S1x4096x256.size a := fun i v4494 v4505 v4517 v4529 v4541 v4553 v4565 v4577 k0_t1 v5158 k0_hw11 k0_h1 => k0_hw11.2 k0_h1

def k0_off16 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) : Fin 1 → Nat :=
  let c0_i32_1722 : BitVec 32 := 0#32
  let c1_i32_1724 : BitVec 32 := 1#32
  let arg26 : BitVec 32 := Scf.iv c0_i32_1722 c1_i32_1724 k0_t1
  let c1_i32_1764 : BitVec 32 := 1#32
  let v5142 : BitVec 32 := Scalar.addi arg26 c1_i32_1764
  let v5143 : Index := Scalar.indexCast v5142
  ![v5143.toNat]
def k0_mult5 (v5144 : BitVec 32) : BitVec 32 :=
  let c512_i32_1765 : BitVec 32 := 512#32
  let v5145 : BitVec 32 := Scalar.muli v5144 c512_i32_1765
  v5145

def k0_off17 (v5144 : BitVec 32) : Fin 3 → Nat :=
  let c0_1766 : Index := 0#32
  let c512_i32_1765 : BitVec 32 := 512#32
  let v5145 : BitVec 32 := Scalar.muli v5144 c512_i32_1765
  let v5146 : BitVec 32 := v5145
  let v5147 : Index := Scalar.indexCast v5146
  let c0_1767 : Index := 0#32
  ![0, v5147.toNat, 0]

def k0_chk12 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5144 : BitVec 32) : Prop :=
  (∀ (k0_h1 : ¬(k0_cond1 i v4494 v4505 v4517 v4529 v4541 v4553 v4565 v4577 k0_t1 = 1#1)), 512 ∣ (k0_mult5 v5144).toNat) ∧
  (∀ (k0_h1 : ¬(k0_cond1 i v4494 v4505 v4517 v4529 v4541 v4553 v4565 v4577 k0_t1 = 1#1)), ∀ a, (k0_off17 v5144) a + S1x512x128.size a ≤ S1x4096x128.size a)
theorem k0_mult5_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5144 : BitVec 32) (k0_hw12 : k0_chk12 i v4494 v4505 v4517 v4529 v4541 v4553 v4565 v4577 k0_t1 v5144), ∀ (k0_h1 : ¬(k0_cond1 i v4494 v4505 v4517 v4529 v4541 v4553 v4565 v4577 k0_t1 = 1#1)), 512 ∣ (k0_mult5 v5144).toNat := fun i v4494 v4505 v4517 v4529 v4541 v4553 v4565 v4577 k0_t1 v5144 k0_hw12 k0_h1 => k0_hw12.1 k0_h1
theorem k0_off17_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5144 : BitVec 32) (k0_hw12 : k0_chk12 i v4494 v4505 v4517 v4529 v4541 v4553 v4565 v4577 k0_t1 v5144), ∀ (k0_h1 : ¬(k0_cond1 i v4494 v4505 v4517 v4529 v4541 v4553 v4565 v4577 k0_t1 = 1#1)), ∀ a, (k0_off17 v5144) a + S1x512x128.size a ≤ S1x4096x128.size a := fun i v4494 v4505 v4517 v4529 v4541 v4553 v4565 v4577 k0_t1 v5144 k0_hw12 k0_h1 => k0_hw12.2 k0_h1

def k0_off18 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) : Fin 1 → Nat :=
  let c0_i32_1722 : BitVec 32 := 0#32
  let c1_i32_1724 : BitVec 32 := 1#32
  let arg26 : BitVec 32 := Scf.iv c0_i32_1722 c1_i32_1724 k0_t1
  let c1_i32_1773 : BitVec 32 := 1#32
  let v5155 : BitVec 32 := Scalar.subi arg26 c1_i32_1773
  let c0_i32_1774 : BitVec 32 := 0#32
  let v5156 : BitVec 32 := Scalar.maxsi v5155 c0_i32_1774
  let v5157 : Index := Scalar.indexCast v5156
  ![v5157.toNat]
def k0_mult6 (v5158 : BitVec 32) : BitVec 32 :=
  let c512_i32_1775 : BitVec 32 := 512#32
  let v5159 : BitVec 32 := Scalar.muli v5158 c512_i32_1775
  v5159

def k0_off19 (v5158 : BitVec 32) : Fin 3 → Nat :=
  let c0_1776 : Index := 0#32
  let c512_i32_1775 : BitVec 32 := 512#32
  let v5159 : BitVec 32 := Scalar.muli v5158 c512_i32_1775
  let v5160 : BitVec 32 := v5159
  let v5161 : Index := Scalar.indexCast v5160
  let c0_1777 : Index := 0#32
  ![0, v5161.toNat, 0]

def k0_chk13 (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5158 : BitVec 32) : Prop :=
  (∀ (k0_h1 : ¬(k0_cond1 i v4494 v4505 v4517 v4529 v4541 v4553 v4565 v4577 k0_t1 = 1#1)), 512 ∣ (k0_mult6 v5158).toNat) ∧
  (∀ (k0_h1 : ¬(k0_cond1 i v4494 v4505 v4517 v4529 v4541 v4553 v4565 v4577 k0_t1 = 1#1)), ∀ a, (k0_off19 v5158) a + S1x512x256.size a ≤ S1x4096x256.size a)
theorem k0_mult6_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5158 : BitVec 32) (k0_hw13 : k0_chk13 i v4494 v4505 v4517 v4529 v4541 v4553 v4565 v4577 k0_t1 v5158), ∀ (k0_h1 : ¬(k0_cond1 i v4494 v4505 v4517 v4529 v4541 v4553 v4565 v4577 k0_t1 = 1#1)), 512 ∣ (k0_mult6 v5158).toNat := fun i v4494 v4505 v4517 v4529 v4541 v4553 v4565 v4577 k0_t1 v5158 k0_hw13 k0_h1 => k0_hw13.1 k0_h1
theorem k0_off19_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t1 : Fin (k0_t1_loop i v4494 v4505 v4517 v4529 v4541 v4553 v4565 v4577).trips) (v5158 : BitVec 32) (k0_hw13 : k0_chk13 i v4494 v4505 v4517 v4529 v4541 v4553 v4565 v4577 k0_t1 v5158), ∀ (k0_h1 : ¬(k0_cond1 i v4494 v4505 v4517 v4529 v4541 v4553 v4565 v4577 k0_t1 = 1#1)), ∀ a, (k0_off19 v5158) a + S1x512x256.size a ≤ S1x4096x256.size a := fun i v4494 v4505 v4517 v4529 v4541 v4553 v4565 v4577 k0_t1 v5158 k0_hw13 k0_h1 => k0_hw13.2 k0_h1

@[reducible] def k0_t2_loop (i : grid0.Coords) (v4494 : BitVec 1) (v4505 : BitVec 1) (v4517 : BitVec 1) (v4529 : BitVec 1) (v4541 : BitVec 1) (v4553 : BitVec 1) (v4565 : BitVec 1) (v4577 : BitVec 1) : Scf.Loop 32 :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let v5006 : BitVec 32 := Scalar.addi c0_i32_1722 v5005
  let c1_i32_1725 : BitVec 32 := 1#32
  ⟨v5009, v5006, c1_i32_1725⟩
def k0_off20 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) : Fin 1 → Nat :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let c1_i32_1725 : BitVec 32 := 1#32
  let arg26 : BitVec 32 := Scf.iv v5009 c1_i32_1725 k0_t2
  let c1_i32_1764 : BitVec 32 := 1#32
  let v5142 : BitVec 32 := Scalar.addi arg26 c1_i32_1764
  let v5143 : Index := Scalar.indexCast v5142
  ![v5143.toNat]
def k0_cond2 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) : BitVec 1 :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let c1_i32_1725 : BitVec 32 := 1#32
  let arg26 : BitVec 32 := Scf.iv v5009 c1_i32_1725 k0_t2
  let c2_i32_1754 : BitVec 32 := 2#32
  let c0_i32_1755 : BitVec 32 := 0#32
  let v5128 : BitVec 1 := Scalar.cmpi .eq c2_i32_1754 c0_i32_1755
  let c1_i32_1756 : BitVec 32 := 1#32
  let v5129 : BitVec 32 := Scalar.select v5128 c1_i32_1756 c2_i32_1754
  let v5130 : BitVec 32 := Scalar.remsi arg26 v5129
  let c0_i32_1758 : BitVec 32 := 0#32
  let v5132 : BitVec 1 := Scalar.cmpi .slt v5130 c0_i32_1758
  let c0_i32_1759 : BitVec 32 := 0#32
  let v5133 : BitVec 1 := Scalar.cmpi .slt v5129 c0_i32_1759
  let v5134 : BitVec 1 := Scalar.xori v5132 v5133
  let c0_i32_1757 : BitVec 32 := 0#32
  let v5131 : BitVec 1 := Scalar.cmpi .ne v5130 c0_i32_1757
  let v5135 : BitVec 1 := Scalar.andi v5134 v5131
  let v5136 : BitVec 32 := Scalar.addi v5130 v5129
  let v5137 : BitVec 32 := Scalar.select v5135 v5136 v5130
  let c0_i32_1760 : BitVec 32 := 0#32
  let v5138 : BitVec 1 := Scalar.cmpi .eq v5137 c0_i32_1760
  let v5139 : BitVec 32 := Scalar.extui v5138
  let c0_i32_1761 : BitVec 32 := 0#32
  let v5140 : BitVec 1 := Scalar.cmpi .ne v5139 c0_i32_1761
  v5140

def k0_mult7 (v5144 : BitVec 32) : BitVec 32 :=
  let c512_i32_1765 : BitVec 32 := 512#32
  let v5145 : BitVec 32 := Scalar.muli v5144 c512_i32_1765
  v5145

def k0_off21 (v5144 : BitVec 32) : Fin 3 → Nat :=
  let c0_1766 : Index := 0#32
  let c512_i32_1765 : BitVec 32 := 512#32
  let v5145 : BitVec 32 := Scalar.muli v5144 c512_i32_1765
  let v5146 : BitVec 32 := v5145
  let v5147 : Index := Scalar.indexCast v5146
  let c0_1767 : Index := 0#32
  ![0, v5147.toNat, 0]

def k0_chk14 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5144 : BitVec 32) : Prop :=
  (∀ (k0_h2 : k0_cond2 i v4494 v4505 v4517 v4529 v4541 v4553 v4565 v4577 k0_t2 = 1#1), 512 ∣ (k0_mult7 v5144).toNat) ∧
  (∀ (k0_h2 : k0_cond2 i v4494 v4505 v4517 v4529 v4541 v4553 v4565 v4577 k0_t2 = 1#1), ∀ a, (k0_off21 v5144) a + S1x512x128.size a ≤ S1x4096x128.size a)
theorem k0_mult7_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5144 : BitVec 32) (k0_hw14 : k0_chk14 i v4494 v4505 v4517 v4529 v4541 v4553 v4565 v4577 k0_t2 v5144), ∀ (k0_h2 : k0_cond2 i v4494 v4505 v4517 v4529 v4541 v4553 v4565 v4577 k0_t2 = 1#1), 512 ∣ (k0_mult7 v5144).toNat := fun i v4494 v4505 v4517 v4529 v4541 v4553 v4565 v4577 k0_t2 v5144 k0_hw14 k0_h2 => k0_hw14.1 k0_h2
theorem k0_off21_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5144 : BitVec 32) (k0_hw14 : k0_chk14 i v4494 v4505 v4517 v4529 v4541 v4553 v4565 v4577 k0_t2 v5144), ∀ (k0_h2 : k0_cond2 i v4494 v4505 v4517 v4529 v4541 v4553 v4565 v4577 k0_t2 = 1#1), ∀ a, (k0_off21 v5144) a + S1x512x128.size a ≤ S1x4096x128.size a := fun i v4494 v4505 v4517 v4529 v4541 v4553 v4565 v4577 k0_t2 v5144 k0_hw14 k0_h2 => k0_hw14.2 k0_h2

def k0_off22 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) : Fin 1 → Nat :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let c1_i32_1725 : BitVec 32 := 1#32
  let arg26 : BitVec 32 := Scf.iv v5009 c1_i32_1725 k0_t2
  let c1_i32_1773 : BitVec 32 := 1#32
  let v5155 : BitVec 32 := Scalar.subi arg26 c1_i32_1773
  let c0_i32_1774 : BitVec 32 := 0#32
  let v5156 : BitVec 32 := Scalar.maxsi v5155 c0_i32_1774
  let v5157 : Index := Scalar.indexCast v5156
  ![v5157.toNat]
def k0_mult8 (v5158 : BitVec 32) : BitVec 32 :=
  let c512_i32_1775 : BitVec 32 := 512#32
  let v5159 : BitVec 32 := Scalar.muli v5158 c512_i32_1775
  v5159

def k0_off23 (v5158 : BitVec 32) : Fin 3 → Nat :=
  let c0_1776 : Index := 0#32
  let c512_i32_1775 : BitVec 32 := 512#32
  let v5159 : BitVec 32 := Scalar.muli v5158 c512_i32_1775
  let v5160 : BitVec 32 := v5159
  let v5161 : Index := Scalar.indexCast v5160
  let c0_1777 : Index := 0#32
  ![0, v5161.toNat, 0]

def k0_chk15 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5158 : BitVec 32) : Prop :=
  (∀ (k0_h2 : k0_cond2 i v4494 v4505 v4517 v4529 v4541 v4553 v4565 v4577 k0_t2 = 1#1), 512 ∣ (k0_mult8 v5158).toNat) ∧
  (∀ (k0_h2 : k0_cond2 i v4494 v4505 v4517 v4529 v4541 v4553 v4565 v4577 k0_t2 = 1#1), ∀ a, (k0_off23 v5158) a + S1x512x256.size a ≤ S1x4096x256.size a)
theorem k0_mult8_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5158 : BitVec 32) (k0_hw15 : k0_chk15 i v4494 v4505 v4517 v4529 v4541 v4553 v4565 v4577 k0_t2 v5158), ∀ (k0_h2 : k0_cond2 i v4494 v4505 v4517 v4529 v4541 v4553 v4565 v4577 k0_t2 = 1#1), 512 ∣ (k0_mult8 v5158).toNat := fun i v4494 v4505 v4517 v4529 v4541 v4553 v4565 v4577 k0_t2 v5158 k0_hw15 k0_h2 => k0_hw15.1 k0_h2
theorem k0_off23_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5158 : BitVec 32) (k0_hw15 : k0_chk15 i v4494 v4505 v4517 v4529 v4541 v4553 v4565 v4577 k0_t2 v5158), ∀ (k0_h2 : k0_cond2 i v4494 v4505 v4517 v4529 v4541 v4553 v4565 v4577 k0_t2 = 1#1), ∀ a, (k0_off23 v5158) a + S1x512x256.size a ≤ S1x4096x256.size a := fun i v4494 v4505 v4517 v4529 v4541 v4553 v4565 v4577 k0_t2 v5158 k0_hw15 k0_h2 => k0_hw15.2 k0_h2

def k0_off24 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) : Fin 1 → Nat :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let c1_i32_1725 : BitVec 32 := 1#32
  let arg26 : BitVec 32 := Scf.iv v5009 c1_i32_1725 k0_t2
  let c1_i32_1764 : BitVec 32 := 1#32
  let v5142 : BitVec 32 := Scalar.addi arg26 c1_i32_1764
  let v5143 : Index := Scalar.indexCast v5142
  ![v5143.toNat]
def k0_mult9 (v5144 : BitVec 32) : BitVec 32 :=
  let c512_i32_1765 : BitVec 32 := 512#32
  let v5145 : BitVec 32 := Scalar.muli v5144 c512_i32_1765
  v5145

def k0_off25 (v5144 : BitVec 32) : Fin 3 → Nat :=
  let c0_1766 : Index := 0#32
  let c512_i32_1765 : BitVec 32 := 512#32
  let v5145 : BitVec 32 := Scalar.muli v5144 c512_i32_1765
  let v5146 : BitVec 32 := v5145
  let v5147 : Index := Scalar.indexCast v5146
  let c0_1767 : Index := 0#32
  ![0, v5147.toNat, 0]

def k0_chk16 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5144 : BitVec 32) : Prop :=
  (∀ (k0_h2 : ¬(k0_cond2 i v4494 v4505 v4517 v4529 v4541 v4553 v4565 v4577 k0_t2 = 1#1)), 512 ∣ (k0_mult9 v5144).toNat) ∧
  (∀ (k0_h2 : ¬(k0_cond2 i v4494 v4505 v4517 v4529 v4541 v4553 v4565 v4577 k0_t2 = 1#1)), ∀ a, (k0_off25 v5144) a + S1x512x128.size a ≤ S1x4096x128.size a)
theorem k0_mult9_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5144 : BitVec 32) (k0_hw16 : k0_chk16 i v4494 v4505 v4517 v4529 v4541 v4553 v4565 v4577 k0_t2 v5144), ∀ (k0_h2 : ¬(k0_cond2 i v4494 v4505 v4517 v4529 v4541 v4553 v4565 v4577 k0_t2 = 1#1)), 512 ∣ (k0_mult9 v5144).toNat := fun i v4494 v4505 v4517 v4529 v4541 v4553 v4565 v4577 k0_t2 v5144 k0_hw16 k0_h2 => k0_hw16.1 k0_h2
theorem k0_off25_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5144 : BitVec 32) (k0_hw16 : k0_chk16 i v4494 v4505 v4517 v4529 v4541 v4553 v4565 v4577 k0_t2 v5144), ∀ (k0_h2 : ¬(k0_cond2 i v4494 v4505 v4517 v4529 v4541 v4553 v4565 v4577 k0_t2 = 1#1)), ∀ a, (k0_off25 v5144) a + S1x512x128.size a ≤ S1x4096x128.size a := fun i v4494 v4505 v4517 v4529 v4541 v4553 v4565 v4577 k0_t2 v5144 k0_hw16 k0_h2 => k0_hw16.2 k0_h2

def k0_off26 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) : Fin 1 → Nat :=
  let c0_i32_1722 : BitVec 32 := 0#32
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let v5005 : BitVec 32 := Scalar.subi v4583 c0_i32_1722
  let c1_i32_1723 : BitVec 32 := 1#32
  let v5007 : BitVec 32 := Scalar.divsi v5005 c1_i32_1723
  let v5008 : BitVec 32 := Scalar.muli v5007 c1_i32_1723
  let v5009 : BitVec 32 := Scalar.addi c0_i32_1722 v5008
  let c1_i32_1725 : BitVec 32 := 1#32
  let arg26 : BitVec 32 := Scf.iv v5009 c1_i32_1725 k0_t2
  let c1_i32_1773 : BitVec 32 := 1#32
  let v5155 : BitVec 32 := Scalar.subi arg26 c1_i32_1773
  let c0_i32_1774 : BitVec 32 := 0#32
  let v5156 : BitVec 32 := Scalar.maxsi v5155 c0_i32_1774
  let v5157 : Index := Scalar.indexCast v5156
  ![v5157.toNat]
def k0_mult10 (v5158 : BitVec 32) : BitVec 32 :=
  let c512_i32_1775 : BitVec 32 := 512#32
  let v5159 : BitVec 32 := Scalar.muli v5158 c512_i32_1775
  v5159

def k0_off27 (v5158 : BitVec 32) : Fin 3 → Nat :=
  let c0_1776 : Index := 0#32
  let c512_i32_1775 : BitVec 32 := 512#32
  let v5159 : BitVec 32 := Scalar.muli v5158 c512_i32_1775
  let v5160 : BitVec 32 := v5159
  let v5161 : Index := Scalar.indexCast v5160
  let c0_1777 : Index := 0#32
  ![0, v5161.toNat, 0]

def k0_chk17 (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5158 : BitVec 32) : Prop :=
  (∀ (k0_h2 : ¬(k0_cond2 i v4494 v4505 v4517 v4529 v4541 v4553 v4565 v4577 k0_t2 = 1#1)), 512 ∣ (k0_mult10 v5158).toNat) ∧
  (∀ (k0_h2 : ¬(k0_cond2 i v4494 v4505 v4517 v4529 v4541 v4553 v4565 v4577 k0_t2 = 1#1)), ∀ a, (k0_off27 v5158) a + S1x512x256.size a ≤ S1x4096x256.size a)
theorem k0_mult10_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5158 : BitVec 32) (k0_hw17 : k0_chk17 i v4494 v4505 v4517 v4529 v4541 v4553 v4565 v4577 k0_t2 v5158), ∀ (k0_h2 : ¬(k0_cond2 i v4494 v4505 v4517 v4529 v4541 v4553 v4565 v4577 k0_t2 = 1#1)), 512 ∣ (k0_mult10 v5158).toNat := fun i v4494 v4505 v4517 v4529 v4541 v4553 v4565 v4577 k0_t2 v5158 k0_hw17 k0_h2 => k0_hw17.1 k0_h2
theorem k0_off27_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_t2 : Fin (k0_t2_loop i v4494 v4505 v4517 v4529 v4541 v4553 v4565 v4577).trips) (v5158 : BitVec 32) (k0_hw17 : k0_chk17 i v4494 v4505 v4517 v4529 v4541 v4553 v4565 v4577 k0_t2 v5158), ∀ (k0_h2 : ¬(k0_cond2 i v4494 v4505 v4517 v4529 v4541 v4553 v4565 v4577 k0_t2 = 1#1)), ∀ a, (k0_off27 v5158) a + S1x512x256.size a ≤ S1x4096x256.size a := fun i v4494 v4505 v4517 v4529 v4541 v4553 v4565 v4577 k0_t2 v5158 k0_hw17 k0_h2 => k0_hw17.2 k0_h2

def k0_cond3 (i : grid0.Coords) : BitVec 1 :=
  let arg2 : BitVec 32 := BitVec.ofNat 32 (i 2).val
  let c4_i32 : BitVec 32 := 4#32
  let v1 : BitVec 32 := Scalar.muli arg2 c4_i32
  let c4_i32_1726 : BitVec 32 := 4#32
  let v5010 : BitVec 32 := Scalar.addi v1 c4_i32_1726
  let c1_i32_1727 : BitVec 32 := 1#32
  let v5011 : BitVec 32 := Scalar.subi v5010 c1_i32_1727
  let c8_i32_1728 : BitVec 32 := 8#32
  let c0_i32_1729 : BitVec 32 := 0#32
  let v5012 : BitVec 1 := Scalar.cmpi .eq c8_i32_1728 c0_i32_1729
  let c1_i32_1730 : BitVec 32 := 1#32
  let v5013 : BitVec 32 := Scalar.select v5012 c1_i32_1730 c8_i32_1728
  let v5014 : BitVec 32 := Scalar.remsi v5011 v5013
  let c0_i32_1732 : BitVec 32 := 0#32
  let v5016 : BitVec 1 := Scalar.cmpi .slt v5014 c0_i32_1732
  let c0_i32_1733 : BitVec 32 := 0#32
  let v5017 : BitVec 1 := Scalar.cmpi .slt v5013 c0_i32_1733
  let v5018 : BitVec 1 := Scalar.xori v5016 v5017
  let c0_i32_1731 : BitVec 32 := 0#32
  let v5015 : BitVec 1 := Scalar.cmpi .ne v5014 c0_i32_1731
  let v5019 : BitVec 1 := Scalar.andi v5018 v5015
  let v5020 : BitVec 32 := Scalar.addi v5014 v5013
  let v5021 : BitVec 32 := Scalar.select v5019 v5020 v5014
  let c4_i32_1734 : BitVec 32 := 4#32
  let v5022 : BitVec 1 := Scalar.cmpi .slt v5021 c4_i32_1734
  let v5023 : BitVec 32 := Scalar.extui v5022
  let c0_i32_1735 : BitVec 32 := 0#32
  let v5024 : BitVec 1 := Scalar.cmpi .ne v5023 c0_i32_1735
  v5024

def k0_off28 (i : grid0.Coords) (v4494 : BitVec 1) (v4505 : BitVec 1) (v4517 : BitVec 1) (v4529 : BitVec 1) (v4541 : BitVec 1) (v4553 : BitVec 1) (v4565 : BitVec 1) (v4577 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let c1_i32_1764 : BitVec 32 := 1#32
  let v5142 : BitVec 32 := Scalar.subi v4583 c1_i32_1764
  let c0_i32_1765 : BitVec 32 := 0#32
  let v5143 : BitVec 32 := Scalar.maxsi v5142 c0_i32_1765
  let v5144 : Index := Scalar.indexCast v5143
  ![v5144.toNat]
def k0_cond4 (i : grid0.Coords) (v4494 : BitVec 1) (v4505 : BitVec 1) (v4517 : BitVec 1) (v4529 : BitVec 1) (v4541 : BitVec 1) (v4553 : BitVec 1) (v4565 : BitVec 1) (v4577 : BitVec 1) : BitVec 1 :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let c2_i32_1754 : BitVec 32 := 2#32
  let c0_i32_1755 : BitVec 32 := 0#32
  let v5128 : BitVec 1 := Scalar.cmpi .eq c2_i32_1754 c0_i32_1755
  let c1_i32_1756 : BitVec 32 := 1#32
  let v5129 : BitVec 32 := Scalar.select v5128 c1_i32_1756 c2_i32_1754
  let v5130 : BitVec 32 := Scalar.remsi v4583 v5129
  let c0_i32_1758 : BitVec 32 := 0#32
  let v5132 : BitVec 1 := Scalar.cmpi .slt v5130 c0_i32_1758
  let c0_i32_1759 : BitVec 32 := 0#32
  let v5133 : BitVec 1 := Scalar.cmpi .slt v5129 c0_i32_1759
  let v5134 : BitVec 1 := Scalar.xori v5132 v5133
  let c0_i32_1757 : BitVec 32 := 0#32
  let v5131 : BitVec 1 := Scalar.cmpi .ne v5130 c0_i32_1757
  let v5135 : BitVec 1 := Scalar.andi v5134 v5131
  let v5136 : BitVec 32 := Scalar.addi v5130 v5129
  let v5137 : BitVec 32 := Scalar.select v5135 v5136 v5130
  let c0_i32_1760 : BitVec 32 := 0#32
  let v5138 : BitVec 1 := Scalar.cmpi .eq v5137 c0_i32_1760
  let v5139 : BitVec 32 := Scalar.extui v5138
  let c0_i32_1761 : BitVec 32 := 0#32
  let v5140 : BitVec 1 := Scalar.cmpi .ne v5139 c0_i32_1761
  v5140

def k0_mult11 (v5145 : BitVec 32) : BitVec 32 :=
  let c512_i32_1766 : BitVec 32 := 512#32
  let v5146 : BitVec 32 := Scalar.muli v5145 c512_i32_1766
  v5146

def k0_off29 (v5145 : BitVec 32) : Fin 3 → Nat :=
  let c0_1767 : Index := 0#32
  let c512_i32_1766 : BitVec 32 := 512#32
  let v5146 : BitVec 32 := Scalar.muli v5145 c512_i32_1766
  let v5147 : BitVec 32 := v5146
  let v5148 : Index := Scalar.indexCast v5147
  let c0_1768 : Index := 0#32
  ![0, v5148.toNat, 0]

def k0_chk18 (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) : Prop :=
  (∀ (k0_h3 : k0_cond3 i = 1#1), ∀ (k0_h4 : k0_cond4 i v4494 v4505 v4517 v4529 v4541 v4553 v4565 v4577 = 1#1), 512 ∣ (k0_mult11 v5145).toNat) ∧
  (∀ (k0_h3 : k0_cond3 i = 1#1), ∀ (k0_h4 : k0_cond4 i v4494 v4505 v4517 v4529 v4541 v4553 v4565 v4577 = 1#1), ∀ a, (k0_off29 v5145) a + S1x512x256.size a ≤ S1x4096x256.size a)
theorem k0_mult11_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw18 : k0_chk18 i v4494 v4505 v4517 v4529 v4541 v4553 v4565 v4577 v5145), ∀ (k0_h3 : k0_cond3 i = 1#1), ∀ (k0_h4 : k0_cond4 i v4494 v4505 v4517 v4529 v4541 v4553 v4565 v4577 = 1#1), 512 ∣ (k0_mult11 v5145).toNat := fun i v4494 v4505 v4517 v4529 v4541 v4553 v4565 v4577 v5145 k0_hw18 k0_h3 k0_h4 => k0_hw18.1 k0_h3 k0_h4
theorem k0_off29_inb : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw18 : k0_chk18 i v4494 v4505 v4517 v4529 v4541 v4553 v4565 v4577 v5145), ∀ (k0_h3 : k0_cond3 i = 1#1), ∀ (k0_h4 : k0_cond4 i v4494 v4505 v4517 v4529 v4541 v4553 v4565 v4577 = 1#1), ∀ a, (k0_off29 v5145) a + S1x512x256.size a ≤ S1x4096x256.size a := fun i v4494 v4505 v4517 v4529 v4541 v4553 v4565 v4577 v5145 k0_hw18 k0_h3 k0_h4 => k0_hw18.2 k0_h3 k0_h4

def k0_mult12 (i : grid0.Coords) : BitVec 32 :=
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5700 : BitVec 32 := Scalar.muli v4488 c512_i32_2002
  v5700
def k0_off30 (i : grid0.Coords) : Fin 3 → Nat :=
  let c0_2003 : Index := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5700 : BitVec 32 := Scalar.muli v4488 c512_i32_2002
  let v5701 : BitVec 32 := v5700
  let v5702 : Index := Scalar.indexCast v5701
  let c0_2004 : Index := 0#32
  ![0, v5702.toNat, 0]
def k0_off31 (i : grid0.Coords) (v4494 : BitVec 1) (v4505 : BitVec 1) (v4517 : BitVec 1) (v4529 : BitVec 1) (v4541 : BitVec 1) (v4553 : BitVec 1) (v4565 : BitVec 1) (v4577 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let c1_i32_1764 : BitVec 32 := 1#32
  let v5142 : BitVec 32 := Scalar.subi v4583 c1_i32_1764
  let c0_i32_1765 : BitVec 32 := 0#32
  let v5143 : BitVec 32 := Scalar.maxsi v5142 c0_i32_1765
  let v5144 : Index := Scalar.indexCast v5143
  ![v5144.toNat]
def k0_mult13 (v5145 : BitVec 32) : BitVec 32 :=
  let c512_i32_1766 : BitVec 32 := 512#32
  let v5146 : BitVec 32 := Scalar.muli v5145 c512_i32_1766
  v5146

def k0_off32 (v5145 : BitVec 32) : Fin 3 → Nat :=
  let c0_1767 : Index := 0#32
  let c512_i32_1766 : BitVec 32 := 512#32
  let v5146 : BitVec 32 := Scalar.muli v5145 c512_i32_1766
  let v5147 : BitVec 32 := v5146
  let v5148 : Index := Scalar.indexCast v5147
  let c0_1768 : Index := 0#32
  ![0, v5148.toNat, 0]

def k0_chk19 (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) : Prop :=
  (∀ (k0_h3 : k0_cond3 i = 1#1), ∀ (k0_h4 : ¬(k0_cond4 i v4494 v4505 v4517 v4529 v4541 v4553 v4565 v4577 = 1#1)), 512 ∣ (k0_mult13 v5145).toNat) ∧
  (∀ (k0_h3 : k0_cond3 i = 1#1), ∀ (k0_h4 : ¬(k0_cond4 i v4494 v4505 v4517 v4529 v4541 v4553 v4565 v4577 = 1#1)), ∀ a, (k0_off32 v5145) a + S1x512x256.size a ≤ S1x4096x256.size a)
theorem k0_mult13_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw19 : k0_chk19 i v4494 v4505 v4517 v4529 v4541 v4553 v4565 v4577 v5145), ∀ (k0_h3 : k0_cond3 i = 1#1), ∀ (k0_h4 : ¬(k0_cond4 i v4494 v4505 v4517 v4529 v4541 v4553 v4565 v4577 = 1#1)), 512 ∣ (k0_mult13 v5145).toNat := fun i v4494 v4505 v4517 v4529 v4541 v4553 v4565 v4577 v5145 k0_hw19 k0_h3 k0_h4 => k0_hw19.1 k0_h3 k0_h4
theorem k0_off32_inb : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw19 : k0_chk19 i v4494 v4505 v4517 v4529 v4541 v4553 v4565 v4577 v5145), ∀ (k0_h3 : k0_cond3 i = 1#1), ∀ (k0_h4 : ¬(k0_cond4 i v4494 v4505 v4517 v4529 v4541 v4553 v4565 v4577 = 1#1)), ∀ a, (k0_off32 v5145) a + S1x512x256.size a ≤ S1x4096x256.size a := fun i v4494 v4505 v4517 v4529 v4541 v4553 v4565 v4577 v5145 k0_hw19 k0_h3 k0_h4 => k0_hw19.2 k0_h3 k0_h4

def k0_mult14 (i : grid0.Coords) : BitVec 32 :=
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5700 : BitVec 32 := Scalar.muli v4488 c512_i32_2002
  v5700
def k0_off33 (i : grid0.Coords) : Fin 3 → Nat :=
  let c0_2003 : Index := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5700 : BitVec 32 := Scalar.muli v4488 c512_i32_2002
  let v5701 : BitVec 32 := v5700
  let v5702 : Index := Scalar.indexCast v5701
  let c0_2004 : Index := 0#32
  ![0, v5702.toNat, 0]
def k0_off34 (i : grid0.Coords) (v4494 : BitVec 1) (v4505 : BitVec 1) (v4517 : BitVec 1) (v4529 : BitVec 1) (v4541 : BitVec 1) (v4553 : BitVec 1) (v4565 : BitVec 1) (v4577 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let c1_i32_1764 : BitVec 32 := 1#32
  let v5142 : BitVec 32 := Scalar.subi v4583 c1_i32_1764
  let c0_i32_1765 : BitVec 32 := 0#32
  let v5143 : BitVec 32 := Scalar.maxsi v5142 c0_i32_1765
  let v5144 : Index := Scalar.indexCast v5143
  ![v5144.toNat]
def k0_cond5 (i : grid0.Coords) (v4494 : BitVec 1) (v4505 : BitVec 1) (v4517 : BitVec 1) (v4529 : BitVec 1) (v4541 : BitVec 1) (v4553 : BitVec 1) (v4565 : BitVec 1) (v4577 : BitVec 1) : BitVec 1 :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let c2_i32_1754 : BitVec 32 := 2#32
  let c0_i32_1755 : BitVec 32 := 0#32
  let v5128 : BitVec 1 := Scalar.cmpi .eq c2_i32_1754 c0_i32_1755
  let c1_i32_1756 : BitVec 32 := 1#32
  let v5129 : BitVec 32 := Scalar.select v5128 c1_i32_1756 c2_i32_1754
  let v5130 : BitVec 32 := Scalar.remsi v4583 v5129
  let c0_i32_1758 : BitVec 32 := 0#32
  let v5132 : BitVec 1 := Scalar.cmpi .slt v5130 c0_i32_1758
  let c0_i32_1759 : BitVec 32 := 0#32
  let v5133 : BitVec 1 := Scalar.cmpi .slt v5129 c0_i32_1759
  let v5134 : BitVec 1 := Scalar.xori v5132 v5133
  let c0_i32_1757 : BitVec 32 := 0#32
  let v5131 : BitVec 1 := Scalar.cmpi .ne v5130 c0_i32_1757
  let v5135 : BitVec 1 := Scalar.andi v5134 v5131
  let v5136 : BitVec 32 := Scalar.addi v5130 v5129
  let v5137 : BitVec 32 := Scalar.select v5135 v5136 v5130
  let c0_i32_1760 : BitVec 32 := 0#32
  let v5138 : BitVec 1 := Scalar.cmpi .eq v5137 c0_i32_1760
  let v5139 : BitVec 32 := Scalar.extui v5138
  let c0_i32_1761 : BitVec 32 := 0#32
  let v5140 : BitVec 1 := Scalar.cmpi .ne v5139 c0_i32_1761
  v5140

def k0_mult15 (v5145 : BitVec 32) : BitVec 32 :=
  let c512_i32_1766 : BitVec 32 := 512#32
  let v5146 : BitVec 32 := Scalar.muli v5145 c512_i32_1766
  v5146

def k0_off35 (v5145 : BitVec 32) : Fin 3 → Nat :=
  let c0_1767 : Index := 0#32
  let c512_i32_1766 : BitVec 32 := 512#32
  let v5146 : BitVec 32 := Scalar.muli v5145 c512_i32_1766
  let v5147 : BitVec 32 := v5146
  let v5148 : Index := Scalar.indexCast v5147
  let c0_1768 : Index := 0#32
  ![0, v5148.toNat, 0]

def k0_chk20 (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) : Prop :=
  (∀ (k0_h3 : ¬(k0_cond3 i = 1#1)), ∀ (k0_h5 : k0_cond5 i v4494 v4505 v4517 v4529 v4541 v4553 v4565 v4577 = 1#1), 512 ∣ (k0_mult15 v5145).toNat) ∧
  (∀ (k0_h3 : ¬(k0_cond3 i = 1#1)), ∀ (k0_h5 : k0_cond5 i v4494 v4505 v4517 v4529 v4541 v4553 v4565 v4577 = 1#1), ∀ a, (k0_off35 v5145) a + S1x512x256.size a ≤ S1x4096x256.size a)
theorem k0_mult15_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw20 : k0_chk20 i v4494 v4505 v4517 v4529 v4541 v4553 v4565 v4577 v5145), ∀ (k0_h3 : ¬(k0_cond3 i = 1#1)), ∀ (k0_h5 : k0_cond5 i v4494 v4505 v4517 v4529 v4541 v4553 v4565 v4577 = 1#1), 512 ∣ (k0_mult15 v5145).toNat := fun i v4494 v4505 v4517 v4529 v4541 v4553 v4565 v4577 v5145 k0_hw20 k0_h3 k0_h5 => k0_hw20.1 k0_h3 k0_h5
theorem k0_off35_inb : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw20 : k0_chk20 i v4494 v4505 v4517 v4529 v4541 v4553 v4565 v4577 v5145), ∀ (k0_h3 : ¬(k0_cond3 i = 1#1)), ∀ (k0_h5 : k0_cond5 i v4494 v4505 v4517 v4529 v4541 v4553 v4565 v4577 = 1#1), ∀ a, (k0_off35 v5145) a + S1x512x256.size a ≤ S1x4096x256.size a := fun i v4494 v4505 v4517 v4529 v4541 v4553 v4565 v4577 v5145 k0_hw20 k0_h3 k0_h5 => k0_hw20.2 k0_h3 k0_h5

def k0_mult16 (i : grid0.Coords) : BitVec 32 :=
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5796 : BitVec 32 := Scalar.muli v4488 c512_i32_2002
  v5796
def k0_off36 (i : grid0.Coords) : Fin 3 → Nat :=
  let c0_2003 : Index := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5796 : BitVec 32 := Scalar.muli v4488 c512_i32_2002
  let v5797 : BitVec 32 := v5796
  let v5798 : Index := Scalar.indexCast v5797
  let c0_2004 : Index := 0#32
  ![0, v5798.toNat, 0]
def k0_off37 (i : grid0.Coords) (v4494 : BitVec 1) (v4505 : BitVec 1) (v4517 : BitVec 1) (v4529 : BitVec 1) (v4541 : BitVec 1) (v4553 : BitVec 1) (v4565 : BitVec 1) (v4577 : BitVec 1) : Fin 1 → Nat :=
  let c0_i32_1513 : BitVec 32 := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c0_i32_1510 : BitVec 32 := 0#32
  let v4496 : BitVec 1 := Scalar.cmpi .sgt v4488 c0_i32_1510
  let v4497 : BitVec 1 := Scalar.andi v4494 v4496
  let c1_i32_1511 : BitVec 32 := 1#32
  let c0_i32_1512 : BitVec 32 := 0#32
  let v4498 : BitVec 32 := Scalar.select v4497 c1_i32_1511 c0_i32_1512
  let v4499 : BitVec 32 := Scalar.addi c0_i32_1513 v4498
  let c1_i32_1517 : BitVec 32 := 1#32
  let v4508 : BitVec 1 := Scalar.cmpi .sgt v4488 c1_i32_1517
  let v4509 : BitVec 1 := Scalar.andi v4505 v4508
  let c1_i32_1518 : BitVec 32 := 1#32
  let c0_i32_1519 : BitVec 32 := 0#32
  let v4510 : BitVec 32 := Scalar.select v4509 c1_i32_1518 c0_i32_1519
  let v4511 : BitVec 32 := Scalar.addi v4499 v4510
  let c2_i32_1523 : BitVec 32 := 2#32
  let v4520 : BitVec 1 := Scalar.cmpi .sgt v4488 c2_i32_1523
  let v4521 : BitVec 1 := Scalar.andi v4517 v4520
  let c1_i32_1524 : BitVec 32 := 1#32
  let c0_i32_1525 : BitVec 32 := 0#32
  let v4522 : BitVec 32 := Scalar.select v4521 c1_i32_1524 c0_i32_1525
  let v4523 : BitVec 32 := Scalar.addi v4511 v4522
  let c3_i32_1529 : BitVec 32 := 3#32
  let v4532 : BitVec 1 := Scalar.cmpi .sgt v4488 c3_i32_1529
  let v4533 : BitVec 1 := Scalar.andi v4529 v4532
  let c1_i32_1530 : BitVec 32 := 1#32
  let c0_i32_1531 : BitVec 32 := 0#32
  let v4534 : BitVec 32 := Scalar.select v4533 c1_i32_1530 c0_i32_1531
  let v4535 : BitVec 32 := Scalar.addi v4523 v4534
  let c4_i32_1535 : BitVec 32 := 4#32
  let v4544 : BitVec 1 := Scalar.cmpi .sgt v4488 c4_i32_1535
  let v4545 : BitVec 1 := Scalar.andi v4541 v4544
  let c1_i32_1536 : BitVec 32 := 1#32
  let c0_i32_1537 : BitVec 32 := 0#32
  let v4546 : BitVec 32 := Scalar.select v4545 c1_i32_1536 c0_i32_1537
  let v4547 : BitVec 32 := Scalar.addi v4535 v4546
  let c5_i32_1541 : BitVec 32 := 5#32
  let v4556 : BitVec 1 := Scalar.cmpi .sgt v4488 c5_i32_1541
  let v4557 : BitVec 1 := Scalar.andi v4553 v4556
  let c1_i32_1542 : BitVec 32 := 1#32
  let c0_i32_1543 : BitVec 32 := 0#32
  let v4558 : BitVec 32 := Scalar.select v4557 c1_i32_1542 c0_i32_1543
  let v4559 : BitVec 32 := Scalar.addi v4547 v4558
  let c6_i32_1547 : BitVec 32 := 6#32
  let v4568 : BitVec 1 := Scalar.cmpi .sgt v4488 c6_i32_1547
  let v4569 : BitVec 1 := Scalar.andi v4565 v4568
  let c1_i32_1548 : BitVec 32 := 1#32
  let c0_i32_1549 : BitVec 32 := 0#32
  let v4570 : BitVec 32 := Scalar.select v4569 c1_i32_1548 c0_i32_1549
  let v4571 : BitVec 32 := Scalar.addi v4559 v4570
  let c7_i32_1553 : BitVec 32 := 7#32
  let v4580 : BitVec 1 := Scalar.cmpi .sgt v4488 c7_i32_1553
  let v4581 : BitVec 1 := Scalar.andi v4577 v4580
  let c1_i32_1554 : BitVec 32 := 1#32
  let c0_i32_1555 : BitVec 32 := 0#32
  let v4582 : BitVec 32 := Scalar.select v4581 c1_i32_1554 c0_i32_1555
  let v4583 : BitVec 32 := Scalar.addi v4571 v4582
  let c1_i32_1764 : BitVec 32 := 1#32
  let v5142 : BitVec 32 := Scalar.subi v4583 c1_i32_1764
  let c0_i32_1765 : BitVec 32 := 0#32
  let v5143 : BitVec 32 := Scalar.maxsi v5142 c0_i32_1765
  let v5144 : Index := Scalar.indexCast v5143
  ![v5144.toNat]

def k0_chk8 (i : grid0.Coords) (v4494 : BitVec 1) (v4505 : BitVec 1) (v4517 : BitVec 1) (v4529 : BitVec 1) (v4541 : BitVec 1) (v4553 : BitVec 1) (v4565 : BitVec 1) (v4577 : BitVec 1) : Prop :=
  (∀ a, (k0_off9 i v4494 v4505 v4517 v4529 v4541 v4553 v4565 v4577) a + S1.size a ≤ S9.size a) ∧
  ((k0_t1_loop i v4494 v4505 v4517 v4529 v4541 v4553 v4565 v4577).OK) ∧
  (∀ k0_t1 : Fin (k0_t1_loop i v4494 v4505 v4517 v4529 v4541 v4553 v4565 v4577).trips, ∀ (k0_h1 : k0_cond1 i v4494 v4505 v4517 v4529 v4541 v4553 v4565 v4577 k0_t1 = 1#1), ∀ a, (k0_off12 i v4494 v4505 v4517 v4529 v4541 v4553 v4565 v4577 k0_t1) a + S1.size a ≤ S9.size a) ∧
  (∀ k0_t1 : Fin (k0_t1_loop i v4494 v4505 v4517 v4529 v4541 v4553 v4565 v4577).trips, ∀ (k0_h1 : k0_cond1 i v4494 v4505 v4517 v4529 v4541 v4553 v4565 v4577 k0_t1 = 1#1), ∀ a, (k0_off14 i v4494 v4505 v4517 v4529 v4541 v4553 v4565 v4577 k0_t1) a + S1.size a ≤ S9.size a) ∧
  (∀ k0_t1 : Fin (k0_t1_loop i v4494 v4505 v4517 v4529 v4541 v4553 v4565 v4577).trips, ∀ (k0_h1 : ¬(k0_cond1 i v4494 v4505 v4517 v4529 v4541 v4553 v4565 v4577 k0_t1 = 1#1)), ∀ a, (k0_off16 i v4494 v4505 v4517 v4529 v4541 v4553 v4565 v4577 k0_t1) a + S1.size a ≤ S9.size a) ∧
  (∀ k0_t1 : Fin (k0_t1_loop i v4494 v4505 v4517 v4529 v4541 v4553 v4565 v4577).trips, ∀ (k0_h1 : ¬(k0_cond1 i v4494 v4505 v4517 v4529 v4541 v4553 v4565 v4577 k0_t1 = 1#1)), ∀ a, (k0_off18 i v4494 v4505 v4517 v4529 v4541 v4553 v4565 v4577 k0_t1) a + S1.size a ≤ S9.size a) ∧
  ((k0_t2_loop i v4494 v4505 v4517 v4529 v4541 v4553 v4565 v4577).OK) ∧
  (∀ k0_t2 : Fin (k0_t2_loop i v4494 v4505 v4517 v4529 v4541 v4553 v4565 v4577).trips, ∀ (k0_h2 : k0_cond2 i v4494 v4505 v4517 v4529 v4541 v4553 v4565 v4577 k0_t2 = 1#1), ∀ a, (k0_off20 i v4494 v4505 v4517 v4529 v4541 v4553 v4565 v4577 k0_t2) a + S1.size a ≤ S9.size a) ∧
  (∀ k0_t2 : Fin (k0_t2_loop i v4494 v4505 v4517 v4529 v4541 v4553 v4565 v4577).trips, ∀ (k0_h2 : k0_cond2 i v4494 v4505 v4517 v4529 v4541 v4553 v4565 v4577 k0_t2 = 1#1), ∀ a, (k0_off22 i v4494 v4505 v4517 v4529 v4541 v4553 v4565 v4577 k0_t2) a + S1.size a ≤ S9.size a) ∧
  (∀ k0_t2 : Fin (k0_t2_loop i v4494 v4505 v4517 v4529 v4541 v4553 v4565 v4577).trips, ∀ (k0_h2 : ¬(k0_cond2 i v4494 v4505 v4517 v4529 v4541 v4553 v4565 v4577 k0_t2 = 1#1)), ∀ a, (k0_off24 i v4494 v4505 v4517 v4529 v4541 v4553 v4565 v4577 k0_t2) a + S1.size a ≤ S9.size a) ∧
  (∀ k0_t2 : Fin (k0_t2_loop i v4494 v4505 v4517 v4529 v4541 v4553 v4565 v4577).trips, ∀ (k0_h2 : ¬(k0_cond2 i v4494 v4505 v4517 v4529 v4541 v4553 v4565 v4577 k0_t2 = 1#1)), ∀ a, (k0_off26 i v4494 v4505 v4517 v4529 v4541 v4553 v4565 v4577 k0_t2) a + S1.size a ≤ S9.size a) ∧
  (∀ (k0_h3 : k0_cond3 i = 1#1), ∀ (k0_h4 : k0_cond4 i v4494 v4505 v4517 v4529 v4541 v4553 v4565 v4577 = 1#1), ∀ a, (k0_off28 i v4494 v4505 v4517 v4529 v4541 v4553 v4565 v4577) a + S1.size a ≤ S9.size a) ∧
  (∀ (k0_h3 : k0_cond3 i = 1#1), ∀ (k0_h4 : ¬(k0_cond4 i v4494 v4505 v4517 v4529 v4541 v4553 v4565 v4577 = 1#1)), ∀ a, (k0_off31 i v4494 v4505 v4517 v4529 v4541 v4553 v4565 v4577) a + S1.size a ≤ S9.size a) ∧
  (∀ (k0_h3 : ¬(k0_cond3 i = 1#1)), ∀ (k0_h5 : k0_cond5 i v4494 v4505 v4517 v4529 v4541 v4553 v4565 v4577 = 1#1), ∀ a, (k0_off34 i v4494 v4505 v4517 v4529 v4541 v4553 v4565 v4577) a + S1.size a ≤ S9.size a) ∧
  (∀ (k0_h3 : ¬(k0_cond3 i = 1#1)), ∀ (k0_h5 : ¬(k0_cond5 i v4494 v4505 v4517 v4529 v4541 v4553 v4565 v4577 = 1#1)), ∀ a, (k0_off37 i v4494 v4505 v4517 v4529 v4541 v4553 v4565 v4577) a + S1.size a ≤ S9.size a)
theorem k0_off9_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), ∀ a, (k0_off9 i v4494 v4505 v4517 v4529 v4541 v4553 v4565 v4577) a + S1.size a ≤ S9.size a := fun i v4494 v4505 v4517 v4529 v4541 v4553 v4565 v4577 k0_hw8 => k0_hw8.1
theorem k0_t1_ok : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), (k0_t1_loop i v4494 v4505 v4517 v4529 v4541 v4553 v4565 v4577).OK := fun i v4494 v4505 v4517 v4529 v4541 v4553 v4565 v4577 k0_hw8 => k0_hw8.2.1
theorem k0_off12_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t1 : Fin (k0_t1_loop i v4494 v4505 v4517 v4529 v4541 v4553 v4565 v4577).trips), ∀ (k0_h1 : k0_cond1 i v4494 v4505 v4517 v4529 v4541 v4553 v4565 v4577 k0_t1 = 1#1), ∀ a, (k0_off12 i v4494 v4505 v4517 v4529 v4541 v4553 v4565 v4577 k0_t1) a + S1.size a ≤ S9.size a := fun i v4494 v4505 v4517 v4529 v4541 v4553 v4565 v4577 k0_hw8 k0_t1 k0_h1 => k0_hw8.2.2.1 k0_t1 k0_h1
theorem k0_off14_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t1 : Fin (k0_t1_loop i v4494 v4505 v4517 v4529 v4541 v4553 v4565 v4577).trips), ∀ (k0_h1 : k0_cond1 i v4494 v4505 v4517 v4529 v4541 v4553 v4565 v4577 k0_t1 = 1#1), ∀ a, (k0_off14 i v4494 v4505 v4517 v4529 v4541 v4553 v4565 v4577 k0_t1) a + S1.size a ≤ S9.size a := fun i v4494 v4505 v4517 v4529 v4541 v4553 v4565 v4577 k0_hw8 k0_t1 k0_h1 => k0_hw8.2.2.2.1 k0_t1 k0_h1
theorem k0_off16_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t1 : Fin (k0_t1_loop i v4494 v4505 v4517 v4529 v4541 v4553 v4565 v4577).trips), ∀ (k0_h1 : ¬(k0_cond1 i v4494 v4505 v4517 v4529 v4541 v4553 v4565 v4577 k0_t1 = 1#1)), ∀ a, (k0_off16 i v4494 v4505 v4517 v4529 v4541 v4553 v4565 v4577 k0_t1) a + S1.size a ≤ S9.size a := fun i v4494 v4505 v4517 v4529 v4541 v4553 v4565 v4577 k0_hw8 k0_t1 k0_h1 => k0_hw8.2.2.2.2.1 k0_t1 k0_h1
theorem k0_off18_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t1 : Fin (k0_t1_loop i v4494 v4505 v4517 v4529 v4541 v4553 v4565 v4577).trips), ∀ (k0_h1 : ¬(k0_cond1 i v4494 v4505 v4517 v4529 v4541 v4553 v4565 v4577 k0_t1 = 1#1)), ∀ a, (k0_off18 i v4494 v4505 v4517 v4529 v4541 v4553 v4565 v4577 k0_t1) a + S1.size a ≤ S9.size a := fun i v4494 v4505 v4517 v4529 v4541 v4553 v4565 v4577 k0_hw8 k0_t1 k0_h1 => k0_hw8.2.2.2.2.2.1 k0_t1 k0_h1
theorem k0_t2_ok : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), (k0_t2_loop i v4494 v4505 v4517 v4529 v4541 v4553 v4565 v4577).OK := fun i v4494 v4505 v4517 v4529 v4541 v4553 v4565 v4577 k0_hw8 => k0_hw8.2.2.2.2.2.2.1
theorem k0_off20_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t2 : Fin (k0_t2_loop i v4494 v4505 v4517 v4529 v4541 v4553 v4565 v4577).trips), ∀ (k0_h2 : k0_cond2 i v4494 v4505 v4517 v4529 v4541 v4553 v4565 v4577 k0_t2 = 1#1), ∀ a, (k0_off20 i v4494 v4505 v4517 v4529 v4541 v4553 v4565 v4577 k0_t2) a + S1.size a ≤ S9.size a := fun i v4494 v4505 v4517 v4529 v4541 v4553 v4565 v4577 k0_hw8 k0_t2 k0_h2 => k0_hw8.2.2.2.2.2.2.2.1 k0_t2 k0_h2
theorem k0_off22_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t2 : Fin (k0_t2_loop i v4494 v4505 v4517 v4529 v4541 v4553 v4565 v4577).trips), ∀ (k0_h2 : k0_cond2 i v4494 v4505 v4517 v4529 v4541 v4553 v4565 v4577 k0_t2 = 1#1), ∀ a, (k0_off22 i v4494 v4505 v4517 v4529 v4541 v4553 v4565 v4577 k0_t2) a + S1.size a ≤ S9.size a := fun i v4494 v4505 v4517 v4529 v4541 v4553 v4565 v4577 k0_hw8 k0_t2 k0_h2 => k0_hw8.2.2.2.2.2.2.2.2.1 k0_t2 k0_h2
theorem k0_off24_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t2 : Fin (k0_t2_loop i v4494 v4505 v4517 v4529 v4541 v4553 v4565 v4577).trips), ∀ (k0_h2 : ¬(k0_cond2 i v4494 v4505 v4517 v4529 v4541 v4553 v4565 v4577 k0_t2 = 1#1)), ∀ a, (k0_off24 i v4494 v4505 v4517 v4529 v4541 v4553 v4565 v4577 k0_t2) a + S1.size a ≤ S9.size a := fun i v4494 v4505 v4517 v4529 v4541 v4553 v4565 v4577 k0_hw8 k0_t2 k0_h2 => k0_hw8.2.2.2.2.2.2.2.2.2.1 k0_t2 k0_h2
theorem k0_off26_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (k0_t2 : Fin (k0_t2_loop i v4494 v4505 v4517 v4529 v4541 v4553 v4565 v4577).trips), ∀ (k0_h2 : ¬(k0_cond2 i v4494 v4505 v4517 v4529 v4541 v4553 v4565 v4577 k0_t2 = 1#1)), ∀ a, (k0_off26 i v4494 v4505 v4517 v4529 v4541 v4553 v4565 v4577 k0_t2) a + S1.size a ≤ S9.size a := fun i v4494 v4505 v4517 v4529 v4541 v4553 v4565 v4577 k0_hw8 k0_t2 k0_h2 => k0_hw8.2.2.2.2.2.2.2.2.2.2.1 k0_t2 k0_h2
theorem k0_off28_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), ∀ (k0_h3 : k0_cond3 i = 1#1), ∀ (k0_h4 : k0_cond4 i v4494 v4505 v4517 v4529 v4541 v4553 v4565 v4577 = 1#1), ∀ a, (k0_off28 i v4494 v4505 v4517 v4529 v4541 v4553 v4565 v4577) a + S1.size a ≤ S9.size a := fun i v4494 v4505 v4517 v4529 v4541 v4553 v4565 v4577 k0_hw8 k0_h3 k0_h4 => k0_hw8.2.2.2.2.2.2.2.2.2.2.2.1 k0_h3 k0_h4
theorem k0_off31_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), ∀ (k0_h3 : k0_cond3 i = 1#1), ∀ (k0_h4 : ¬(k0_cond4 i v4494 v4505 v4517 v4529 v4541 v4553 v4565 v4577 = 1#1)), ∀ a, (k0_off31 i v4494 v4505 v4517 v4529 v4541 v4553 v4565 v4577) a + S1.size a ≤ S9.size a := fun i v4494 v4505 v4517 v4529 v4541 v4553 v4565 v4577 k0_hw8 k0_h3 k0_h4 => k0_hw8.2.2.2.2.2.2.2.2.2.2.2.2.1 k0_h3 k0_h4
theorem k0_off34_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), ∀ (k0_h3 : ¬(k0_cond3 i = 1#1)), ∀ (k0_h5 : k0_cond5 i v4494 v4505 v4517 v4529 v4541 v4553 v4565 v4577 = 1#1), ∀ a, (k0_off34 i v4494 v4505 v4517 v4529 v4541 v4553 v4565 v4577) a + S1.size a ≤ S9.size a := fun i v4494 v4505 v4517 v4529 v4541 v4553 v4565 v4577 k0_hw8 k0_h3 k0_h5 => k0_hw8.2.2.2.2.2.2.2.2.2.2.2.2.2.1 k0_h3 k0_h5
theorem k0_off37_inb : ∀ (i : grid0.Coords) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577), ∀ (k0_h3 : ¬(k0_cond3 i = 1#1)), ∀ (k0_h5 : ¬(k0_cond5 i v4494 v4505 v4517 v4529 v4541 v4553 v4565 v4577 = 1#1)), ∀ a, (k0_off37 i v4494 v4505 v4517 v4529 v4541 v4553 v4565 v4577) a + S1.size a ≤ S9.size a := fun i v4494 v4505 v4517 v4529 v4541 v4553 v4565 v4577 k0_hw8 k0_h3 k0_h5 => k0_hw8.2.2.2.2.2.2.2.2.2.2.2.2.2.2 k0_h3 k0_h5

def k0_mult17 (v5145 : BitVec 32) : BitVec 32 :=
  let c512_i32_1766 : BitVec 32 := 512#32
  let v5146 : BitVec 32 := Scalar.muli v5145 c512_i32_1766
  v5146

def k0_off38 (v5145 : BitVec 32) : Fin 3 → Nat :=
  let c0_1767 : Index := 0#32
  let c512_i32_1766 : BitVec 32 := 512#32
  let v5146 : BitVec 32 := Scalar.muli v5145 c512_i32_1766
  let v5147 : BitVec 32 := v5146
  let v5148 : Index := Scalar.indexCast v5147
  let c0_1768 : Index := 0#32
  ![0, v5148.toNat, 0]

def k0_chk21 (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) : Prop :=
  (∀ (k0_h3 : ¬(k0_cond3 i = 1#1)), ∀ (k0_h5 : ¬(k0_cond5 i v4494 v4505 v4517 v4529 v4541 v4553 v4565 v4577 = 1#1)), 512 ∣ (k0_mult17 v5145).toNat) ∧
  (∀ (k0_h3 : ¬(k0_cond3 i = 1#1)), ∀ (k0_h5 : ¬(k0_cond5 i v4494 v4505 v4517 v4529 v4541 v4553 v4565 v4577 = 1#1)), ∀ a, (k0_off38 v5145) a + S1x512x256.size a ≤ S1x4096x256.size a)
theorem k0_mult17_dvd : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw21 : k0_chk21 i v4494 v4505 v4517 v4529 v4541 v4553 v4565 v4577 v5145), ∀ (k0_h3 : ¬(k0_cond3 i = 1#1)), ∀ (k0_h5 : ¬(k0_cond5 i v4494 v4505 v4517 v4529 v4541 v4553 v4565 v4577 = 1#1)), 512 ∣ (k0_mult17 v5145).toNat := fun i v4494 v4505 v4517 v4529 v4541 v4553 v4565 v4577 v5145 k0_hw21 k0_h3 k0_h5 => k0_hw21.1 k0_h3 k0_h5
theorem k0_off38_inb : ∀ (i : grid0.Coords) (v4494 : BitVec 1) (v4505 : BitVec 1) (v4517 : BitVec 1) (v4529 : BitVec 1) (v4541 : BitVec 1) (v4553 : BitVec 1) (v4565 : BitVec 1) (v4577 : BitVec 1) (v5145 : BitVec 32) (k0_hw21 : k0_chk21 i v4494 v4505 v4517 v4529 v4541 v4553 v4565 v4577 v5145), ∀ (k0_h3 : ¬(k0_cond3 i = 1#1)), ∀ (k0_h5 : ¬(k0_cond5 i v4494 v4505 v4517 v4529 v4541 v4553 v4565 v4577 = 1#1)), ∀ a, (k0_off38 v5145) a + S1x512x256.size a ≤ S1x4096x256.size a := fun i v4494 v4505 v4517 v4529 v4541 v4553 v4565 v4577 v5145 k0_hw21 k0_h3 k0_h5 => k0_hw21.2 k0_h3 k0_h5

def k0_mult18 (i : grid0.Coords) : BitVec 32 :=
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5796 : BitVec 32 := Scalar.muli v4488 c512_i32_2002
  v5796
def k0_off39 (i : grid0.Coords) : Fin 3 → Nat :=
  let c0_2003 : Index := 0#32
  let arg2 : BitVec 32 := BitVec.ofNat 32 (i 2).val
  let c4_i32 : BitVec 32 := 4#32
  let v1 : BitVec 32 := Scalar.muli arg2 c4_i32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  let c512_i32_2002 : BitVec 32 := 512#32
  let v5796 : BitVec 32 := Scalar.muli v4488 c512_i32_2002
  let v5797 : BitVec 32 := v5796
  let v5798 : Index := Scalar.indexCast v5797
  let c0_2004 : Index := 0#32
  ![0, v5798.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S128x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Proof.Closing.lean ====
module

public import proofs.«01_k».proof.Proof.Gen.KernelIdeal.Skeleton
public import Idealize.ShloMosaic.Lib.Pipeline.ValueKit

/-!
What one tile's output rows are: the output projection of the convolution mixer and of the attention's output added to the residual stream, then the
feed-forward part with squared rectified units, then the last norm. The definitions are over the rows of one token; the theorem reads the stored block there.
-/

@[expose] public section

set_option maxRecDepth 16384

noncomputable section

open Idealize.ShloMosaic Idealize.ShloMosaic.TcCoe Idealize.SL.Sem

namespace Cert.KernelIdeal.Closing

open Cert.KernelIdeal Cert.KernelIdeal.Gen

/-- The root-mean-square norm of one token's row, scaled by `g`. -/
def rmsAt (v g : Fin 1024 → EReal) (j : Fin 1024) : EReal :=
  v j * Ideal.rsqrt (Ideal.div (∑ x, v x * v x) (Ideal.ofBits .f32 0x44800000#32) + Ideal.ofBits .f32 0x358637BD#32) * g j

/-- The residual stream after the output projection, whose upper half meets the convolution mixer `c` and whose lower half the attention's output `a`. -/
def residAt (x : Fin 1024 → EReal) (c a : Fin 512 → EReal) (wc wa : Fin 512 → Fin 1024 → EReal) (j : Fin 1024) : EReal :=
  x j + ∑ k, c k * wc k j + ∑ k, a k * wa k j

/-- The feed-forward part with squared rectified units. -/
def ffAt (h : Fin 1024 → EReal) (w1 : Fin 1024 → Fin 4096 → EReal) (w2 : Fin 4096 → Fin 1024 → EReal) (j : Fin 1024) : EReal :=
  ∑ k, (max (∑ l, h l * w1 l k) 0 * max (∑ l, h l * w1 l k) 0) * w2 k j

/-- One token's result row over its residual row `r` after the output projection. -/
def tailAt (r g2 : Fin 1024 → EReal) (w1 : Fin 1024 → Fin 4096 → EReal) (w2 : Fin 4096 → Fin 1024 → EReal) (gf : Fin 1024 → EReal) (j : Fin 1024) : EReal :=
  rmsAt (fun x => r x + ffAt (rmsAt r g2) w1 w2 x) gf j

/-- The block a grid point stores, read at a token and a channel. -/
theorem stored_at (c a : FVec Ideal S512x512 .bf16) (x : FVec Ideal S512x1024 .f32) (wc wa : FVec Ideal S512x1024 .bf16) (g2 gf : FVec Ideal S1x1024 .f32)
    (w1 : FVec Ideal S1024x4096 .bf16) (w2 : FVec Ideal S4096x1024 .bf16) (i : Fin 512) (j : Fin 1024) :
    k0_pay836 (F := Ideal) (k0_pay833 c (k0_pay831 x) (k0_pay832 wc) a wa g2 w1 w2) (k0_pay834 gf) (k0_pay835 c (k0_pay831 x) (k0_pay832 wc) a wa g2 w1 w2) (ix2 i j)
      = tailAt (residAt (fun l => x (ix2 i l)) (fun k => c (ix2 i k)) (fun k => a (ix2 i k)) (fun k l => wc (ix2 k l)) (fun k l => wa (ix2 k l)))
          (fun l => g2 (ix2 0 l)) (fun l k => w1 (ix2 l k)) (fun k l => w2 (ix2 k l)) (fun l => gf (ix2 0 l)) j := by
  pointwise [k0_pay831, k0_pay832, k0_pay833, k0_pay834, k0_pay835, k0_pay836, tailAt, rmsAt, residAt, ffAt]

end Cert.KernelIdeal.Closing

end
-- ==== Proof.Block.lean ====
module

public import proofs.«01_k».proof.Proof.Gen.KernelIdeal.Skeleton
public import Idealize.ShloMosaic.Lib.Pipeline.ValueKit

/-!
One row block of the convolution: sixteen rows of the tile, computed from thirty-one shifted windows ("taps") of the extended
tile, then normalized over the channels and gated by its own logistic. This module states that block as one function of the
loaded windows and reads it at an index.
-/

@[expose] public section

set_option maxRecDepth 16384

noncomputable section

open Idealize.ShloMosaic Idealize.ShloMosaic.TcCoe Idealize.SL.Sem

namespace Cert.KernelIdeal.Conv

open Cert.KernelIdeal Cert.KernelIdeal.Gen

variable {F : FTy → Type} [FloatOps F]

/-! ## The block as vectors -/

/-- The accumulator before the first tap: zero plus the convolution's bias in every row. -/
def start (b : Vec F S1x512 .f32) : FVec F S16x512 .f32 :=
  addf (broadcast S16x512 (Scalar.ofBits .f32 0x00000000#32 : F .f32))
    (broadcastTo S16x512 (shapeCast S1x512 b shapeCasts_S1x512_S1x512) broadcasts_S1x512_S16x512)

/-- One tap: the accumulator plus the loaded window times the tap's weights, the eight stored rows of weights used twice. -/
def tap (acc x : FVec F S16x512 .f32) (w : Vec F S8x512 .f32) : FVec F S16x512 .f32 :=
  addf acc (mulf x (concatenate S16x512 0 [⟨S8x512, shapeCast S8x512 w shapeCasts_S8x512_S8x512⟩, ⟨S8x512, shapeCast S8x512 w shapeCasts_S8x512_S8x512⟩]
    concatenates_S8x512_S8x512_S16x512_d0))

/-- A window loaded from the shifted copies, without its leading axis of length one. -/
def flat (x : Vec F S1x16x512 .f32) : FVec F S16x512 .f32 := shapeCast S16x512 x shapeCasts_S1x16x512_S16x512

/-- The mean of a block's rows, one number per row. -/
def rowMean (v : FVec F S16x512 .f32) : FVec F S16x1 .f32 :=
  divf (shapeCast S16x1 (multiReduction .add [1] S16 v 0x00000000#32 reduces_S16x512_S16 (.inl rfl) rfl) shapeCasts_S16_S16x1)
    (broadcast S16x1 (Scalar.ofBits .f32 0x44000000#32 : F .f32))

/-- A block minus its rows' means. -/
def centred (v : FVec F S16x512 .f32) : FVec F S16x512 .f32 :=
  subf v (broadcastTo S16x512 (rowMean v) broadcasts_S16x1_S16x512)

/-- A block normalized over its channels, scaled and shifted. -/
def scaled (v : FVec F S16x512 .f32) (g be : Vec F S1x512 .f32) : FVec F S16x512 .f32 :=
  addf (mulf (mulf (centred v) (broadcastTo S16x512 (rsqrt (addf (rowMean (mulf (centred v) (centred v)))
      (broadcast S16x1 (Scalar.ofBits .f32 0x358637BD#32 : F .f32)))) broadcasts_S16x1_S16x512))
    (broadcastTo S16x512 (shapeCast S1x512 g shapeCasts_S1x512_S1x512) broadcasts_S1x512_S16x512))
    (broadcastTo S16x512 (shapeCast S1x512 be shapeCasts_S1x512_S1x512) broadcasts_S1x512_S16x512)

/-- What is stored for a row block whose accumulated convolution is `v`. -/
def finish (v : FVec F S16x512 .f32) (g be : Vec F S1x512 .f32) : FVec F S16x512 .bf16 :=
  shapeCast S16x512 (truncf .bf16 (mulf (scaled v g be) (logistic (scaled v g be))) bitsLt_bf16_f32) shapeCasts_S16x512_S16x512

/-! ## The block at an index -/

/-- A row minus its mean. -/
def centreAt (v : Fin 512 → EReal) (j : Fin 512) : EReal := v j - Ideal.div (∑ x, v x) (Ideal.ofBits .f32 0x44000000#32)

/-- A row normalized by its mean and variance, scaled by `g` and shifted by `be`. -/
def scaledAt (v g be : Fin 512 → EReal) (j : Fin 512) : EReal :=
  centreAt v j * Ideal.rsqrt (Ideal.div (∑ x, centreAt v x * centreAt v x) (Ideal.ofBits .f32 0x44000000#32) + Ideal.ofBits .f32 0x358637BD#32) * g j + be j

/-- The normalized row times its own logistic. -/
def gateAt (v g be : Fin 512 → EReal) (j : Fin 512) : EReal := scaledAt v g be j * Ideal.logistic (scaledAt v g be j)

/-- The causal convolution's partial sums at row `q` and channel `j`: the bias and the first `n` taps, over the rows `E` of the extended tile, whose row
    `q + 2` is the oldest one row `q` sees. -/
def convAt (E : ℕ → Fin 512 → EReal) (V : ℕ → Fin 512 → EReal) (b : Fin 512 → EReal) : ℕ → ℕ → Fin 512 → EReal
  | 0, _, j => b j
  | n + 1, q, j => convAt E V b n q j + E (q + 2 + n) j * V n j

/-- The row `q` of the convolution mixer: all thirty-one taps, normalized and gated. -/
def mixAt (E : ℕ → Fin 512 → EReal) (V : ℕ → Fin 512 → EReal) (b g be : Fin 512 → EReal) (q : ℕ) (j : Fin 512) : EReal :=
  gateAt (fun x => convAt E V b 31 q x) g be j

theorem start_at (b : FVec Ideal S1x512 .f32) (i : Fin 16) (j : Fin 512) : start (F := Ideal) b (ix2 i j) = b (ix2 0 j) := by
  pointwise [start]

theorem tap_at (acc x : FVec Ideal S16x512 .f32) (w : FVec Ideal S8x512 .f32) (i : Fin 16) (j : Fin 512) :
    tap (F := Ideal) acc x w (ix2 i j) = acc (ix2 i j) + x (ix2 i j) * (if h : i.val < 8 then w (ix2 ⟨i.val, h⟩ j) else w (ix2 ⟨i.val - 8, by omega⟩ j)) := by
  pointwise [tap]

theorem flat_at (x : FVec Ideal S1x16x512 .f32) (i : Fin 16) (j : Fin 512) : flat (F := Ideal) x (ix2 i j) = x (ix3 0 i j) := by
  pointwise [flat]

theorem finish_at (v : FVec Ideal S16x512 .f32) (g be : FVec Ideal S1x512 .f32) (i : Fin 16) (j : Fin 512) :
    finish (F := Ideal) v g be (ix2 i j) = gateAt (fun x => v (ix2 i x)) (fun x => g (ix2 0 x)) (fun x => be (ix2 0 x)) j := by
  pointwise [finish, scaled, centred, rowMean, gateAt, scaledAt, centreAt]

/-- `acc` holds the first `n` taps of the rows `r0 …`. -/
structure Holds (E V : ℕ → Fin 512 → EReal) (b : Fin 512 → EReal) (r0 n : ℕ) (acc : FVec Ideal S16x512 .f32) : Prop where
  read : ∀ (i : Fin 16) (j : Fin 512), acc (ix2 i j) = convAt E V b n (r0 + i.val) j

theorem Holds.start {E V : ℕ → Fin 512 → EReal} {b : FVec Ideal S1x512 .f32} {r0 : ℕ} :
    Holds E V (fun x => b (ix2 0 x)) r0 0 (start (F := Ideal) b) := ⟨fun i j => start_at b i j⟩

/-- The window `x` is the rows `r0 + 2 + n …` of the extended tile. -/
structure Window (E : ℕ → Fin 512 → EReal) (r0 n : ℕ) (x : FVec Ideal S16x512 .f32) : Prop where
  read : ∀ (i : Fin 16) (j : Fin 512), x (ix2 i j) = E (r0 + i.val + 2 + n) j

/-- The eight stored rows `w` all hold tap `n`'s weights. -/
structure Weights (V : ℕ → Fin 512 → EReal) (n : ℕ) (w : FVec Ideal S8x512 .f32) : Prop where
  read : ∀ (i : Fin 8) (j : Fin 512), w (ix2 i j) = V n j

theorem Holds.tap {E V : ℕ → Fin 512 → EReal} {b : Fin 512 → EReal} {r0 n : ℕ} {acc x : FVec Ideal S16x512 .f32} {w : FVec Ideal S8x512 .f32}
    (h : Holds E V b r0 n acc) (hx : Window E r0 n x) (hw : Weights V n w) : Holds E V b r0 (n + 1) (tap (F := Ideal) acc x w) := by
  refine ⟨fun i j => ?_⟩
  rw [tap_at, h.read i j, hx.read i j]
  simp only [convAt]
  split <;> rw [hw.read]

/-- A finished block over all thirty-one taps is the mixer's rows. -/
theorem Holds.finish {E V : ℕ → Fin 512 → EReal} {b : Fin 512 → EReal} {r0 : ℕ} {v : FVec Ideal S16x512 .f32} {g be : FVec Ideal S1x512 .f32}
    (h : Holds E V b r0 31 v) (i : Fin 16) (j : Fin 512) :
    finish (F := Ideal) v g be (ix2 i j) = mixAt E V b (fun x => g (ix2 0 x)) (fun x => be (ix2 0 x)) (r0 + i.val) j := by
  rw [finish_at, mixAt]
  exact congrArg (fun f => gateAt f _ _ j) (funext fun x => h.read i x)

end Cert.KernelIdeal.Conv

end
-- ==== Proof.Wanted.lean ====
module

public import proofs.«01_k».proof.Proof.Gen.ReferenceIdeal.Read
public import proofs.«01_k».proof.Proof.Closing
public import proofs.«01_k».proof.Proof.Block

/-!
The reference read at one token and one channel: its convolution is the bias and the thirty-one shifted products over the padded sequence, its mixer
row is that row normalized and gated, and its result row is the closing computation over the residual row.
-/

@[expose] public section

set_option maxRecDepth 16384

noncomputable section

open Idealize.ShloMosaic Idealize.ShloMosaic.TcCoe Idealize.SL.Sem

namespace Cert.ReferenceIdeal.Wanted

open Cert.ReferenceIdeal Cert.ReferenceIdeal.Gen Cert.ReferenceIdeal.Read
open Cert.KernelIdeal.Conv Cert.KernelIdeal.Closing

/-- Row `p` of sequence `b` with thirty rows of zeros before it. -/
def padAt (u : FVec Ideal S8x4096x512 .f32) (b : Fin 8) (p : ℕ) (j : Fin 512) : EReal :=
  if h : 30 ≤ p ∧ p < 4126 then u (ix3 b ⟨p - 30, by omega⟩ j) else 0

/-- The rows of sequence `b` that token `s` sees, numbered as the rows of an extended tile are seen from row `0`. -/
def histAt (u : FVec Ideal S8x4096x512 .f32) (b : Fin 8) (s : ℕ) (q : ℕ) (j : Fin 512) : EReal := padAt u b (s + q - 2) j

/-- The depthwise weights by tap and channel. -/
def wAt (w : FVec Ideal S1x31x1x512 .f32) (n : ℕ) (j : Fin 512) : EReal := if h : n < 31 then w (ix4 0 ⟨n, h⟩ 0 j) else 0

theorem pad_read (u : FVec Ideal S8x4096x512 .f32) (b : Fin 8) (p : Fin 4126) (j : Fin 512) :
    val_main_v0 (F := Ideal) u (ix3 b p j) = padAt u b p.val j := by
  have hp := p.isLt
  pointwise [val_main_c, val_main_call0_v0, val_main_v0, padAt]
  by_cases h : 30 ≤ p.val
  · rw [dif_pos h, dif_pos ⟨h, by omega⟩]
  · rw [dif_neg h, dif_neg fun h' => h h'.1]
    norm_num [FloatOps.sitofp]

/-- The first `n` shifted products of token `s`, summed from zero. -/
def tapsAt (u : FVec Ideal S8x4096x512 .f32) (w : FVec Ideal S1x31x1x512 .f32) (b : Fin 8) (s : ℕ) (j : Fin 512) : ℕ → EReal
  | 0 => 0
  | n + 1 => tapsAt u w b s j n + padAt u b (n + s) j * wAt w n j

/-- The bias may be added before the products or after them. -/
theorem taps_add (u : FVec Ideal S8x4096x512 .f32) (w : FVec Ideal S1x31x1x512 .f32) (cb : FVec Ideal S1x512 .f32) (b : Fin 8) (s : ℕ) (j : Fin 512) :
    ∀ n : ℕ, tapsAt u w b s j n + cb (ix2 0 j) = convAt (histAt u b s) (wAt w) (fun x => cb (ix2 0 x)) n 0 j
  | 0 => by simp only [tapsAt, convAt, zero_add]
  | n + 1 => by
    simp only [tapsAt, convAt]
    rw [← taps_add u w cb b s j n, add_right_comm, histAt, show s + (0 + 2 + n) - 2 = n + s by omega]

theorem conv_read (u : FVec Ideal S8x4096x512 .f32) (w : FVec Ideal S1x31x1x512 .f32) (cb : FVec Ideal S1x512 .f32) (b : Fin 8) (s : Fin 4096) (j : Fin 512) :
    val_main_v253 (F := Ideal) u w cb (ix3 b s j) = convAt (histAt u b s.val) (wAt w) (fun x => cb (ix2 0 x)) 31 0 j := by
  rw [← taps_add]
  pointwise [val_main_v1, val_main_v2, val_main_v3, val_main_v4, val_main_v5, val_main_v6, val_main_v7, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253]
  simp only [tapsAt, pad_read, wAt, zero_add, Nat.reduceLT, dite_true]
  rfl

theorem mix_read (u : FVec Ideal S8x4096x512 .f32) (w : FVec Ideal S1x31x1x512 .f32) (cb cg cbe : FVec Ideal S1x512 .f32) (b : Fin 8) (s : Fin 4096) (j : Fin 512) :
    val_main_v286 (F := Ideal) u w cb cg cbe (ix3 b s j)
      = gateAt (fun x => val_main_v253 (F := Ideal) u w cb (ix3 b s x)) (fun x => cg (ix2 0 x)) (fun x => cbe (ix2 0 x)) j := by
  pointwise [val_main_v254, val_main_v255, val_main_cst_0, val_main_v256, val_main_v257, val_main_cst_1, val_main_v258, val_main_v259, val_main_v260, val_main_v261, val_main_v262, val_main_cst_2, val_main_v263, val_main_v264, val_main_cst_3, val_main_v265, val_main_v266, val_main_v267, val_main_v268, val_main_cst_4, val_main_v269, val_main_v270, val_main_v271, val_main_v272, val_main_v273, val_main_v274, val_main_v275, val_main_v276, val_main_v277, val_main_v278, val_main_v279, val_main_v280, val_main_v281, val_main_cst_5, val_main_v282, val_main_v283, val_main_cst_6, val_main_v284, val_main_v285, val_main_v286, gateAt, scaledAt, centreAt]
  rfl

theorem resid_read (x : FVec Ideal S8x4096x1024 .f32) (u : FVec Ideal S8x4096x512 .f32) (a : FVec Ideal S8x4096x512 .bf16) (w : FVec Ideal S1x31x1x512 .f32) (cb cg cbe : FVec Ideal S1x512 .f32) (wo : FVec Ideal S1x1024x1024 .f32) (b : Fin 8) (s : Fin 4096) (j : Fin 1024) :
    val_main_v291 (F := Ideal) x u a w cb cg cbe wo (ix3 b s j)
      = residAt (fun l => x (ix3 b s l)) (fun k => val_main_v286 (F := Ideal) u w cb cg cbe (ix3 b s k)) (fun k => a (ix3 b s k))
          (fun k l => wo (ix3 0 ⟨k.val, by omega⟩ l)) (fun k l => wo (ix3 0 ⟨512 + k.val, by omega⟩ l)) j := by
  pointwise [val_main_v287, val_main_v288, val_main_v289, val_main_v290, val_main_v291, residAt]
  rw [add_assoc]

/-- One token's result row of the reference over its residual row. -/
theorem tail_read (x : FVec Ideal S8x4096x1024 .f32) (u : FVec Ideal S8x4096x512 .f32) (a : FVec Ideal S8x4096x512 .bf16) (w : FVec Ideal S1x31x1x512 .f32)
    (cb cg cbe : FVec Ideal S1x512 .f32) (wo : FVec Ideal S1x1024x1024 .f32) (g2 : FVec Ideal S1x1024 .f32) (w1 : FVec Ideal S1x1024x4096 .f32)
    (w2 : FVec Ideal S1x4096x1024 .f32) (gf : FVec Ideal S1024 .f32) (r : Fin 32768) (j : Fin 1024) :
    val_main_v327 (F := Ideal) x u a w cb cg cbe wo g2 w1 w2 gf (ix2 r j)
      = tailAt (fun l => val_main_v291 (F := Ideal) x u a w cb cg cbe wo (ix3 ⟨r.val / 4096, by omega⟩ ⟨r.val % 4096, by omega⟩ l))
          (fun l => g2 (ix2 0 l)) (fun l k => w1 (ix3 0 l k)) (fun k l => w2 (ix3 0 k l)) (fun l => gf (ix1 l)) j := by
  pointwise [val_main_v292, val_main_v293, val_main_cst_7, val_main_v294, val_main_v295, val_main_cst_8, val_main_v296, val_main_v297, val_main_cst_9, val_main_v298, val_main_v299, val_main_v300, val_main_v301, val_main_v302, val_main_v303, val_main_v304, val_main_v305, val_main_v306, val_main_v307, val_main_cst_10, val_main_v308, val_main_v309, val_main_v310, val_main_v311, val_main_v312, val_main_v313, val_main_v314, val_main_cst_11, val_main_v315, val_main_v316, val_main_cst_12, val_main_v317, val_main_v318, val_main_cst_13, val_main_v319, val_main_v320, val_main_v321, val_main_v322, val_main_v323, val_main_v324, val_main_v325, val_main_v326, val_main_v327, tailAt, rmsAt, ffAt]

/-- The reference's result at row `r` of the flattened batch: token `r % 4096` of sequence `r / 4096`. -/
theorem result_read (x : FVec Ideal S8x4096x1024 .f32) (u : FVec Ideal S8x4096x512 .f32) (a : FVec Ideal S8x4096x512 .bf16) (w : FVec Ideal S1x31x1x512 .f32)
    (cb cg cbe : FVec Ideal S1x512 .f32) (wo : FVec Ideal S1x1024x1024 .f32) (g2 : FVec Ideal S1x1024 .f32) (w1 : FVec Ideal S1x1024x4096 .f32)
    (w2 : FVec Ideal S1x4096x1024 .f32) (gf : FVec Ideal S1024 .f32) (r : Fin 32768) (j : Fin 1024) :
    val_main_v327 (F := Ideal) x u a w cb cg cbe wo g2 w1 w2 gf (ix2 r j)
      = tailAt (residAt (fun l => x (ix3 ⟨r.val / 4096, by omega⟩ ⟨r.val % 4096, by omega⟩ l))
            (mixAt (histAt u ⟨r.val / 4096, by omega⟩ (r.val % 4096)) (wAt w) (fun l => cb (ix2 0 l)) (fun l => cg (ix2 0 l)) (fun l => cbe (ix2 0 l)) 0)
            (fun k => a (ix3 ⟨r.val / 4096, by omega⟩ ⟨r.val % 4096, by omega⟩ k))
            (fun k l => wo (ix3 0 ⟨k.val, by omega⟩ l)) (fun k l => wo (ix3 0 ⟨512 + k.val, by omega⟩ l)))
          (fun l => g2 (ix2 0 l)) (fun l k => w1 (ix3 0 l k)) (fun k l => w2 (ix3 0 k l)) (fun l => gf (ix1 l)) j := by
  rw [tail_read]
  refine congrArg (fun f => tailAt f _ _ _ _ j) (funext fun l => ?_)
  rw [resid_read]
  refine congrArg (fun f => residAt _ f _ _ _ l) (funext fun k => ?_)
  rw [mix_read, mixAt]
  exact congrArg (fun f => gateAt f _ _ k) (funext fun y => conv_read u w cb _ _ y)

end Cert.ReferenceIdeal.Wanted

end
-- ==== Proof.Windows.lean ====
module

public import proofs.«01_k».proof.Proof.Block
public import Idealize.ShloMosaic.Lib.Pipeline.ReadBack
public import Idealize.ShloMosaic.Lib.Ring
public import Idealize.ShloMosaic.Lib.Tactic

/-!
The loads of the convolution. The extended tile is read either directly, at rows that are a multiple of eight, or through its seven shifted copies; both are
windows of its rows. A store into the result tile is a finished row block, so the thirty-two stores together leave the mixer's rows.
-/

@[expose] public section

set_option maxRecDepth 16384

noncomputable section

open Idealize.ShloMosaic Idealize.ShloMosaic.TcCoe Idealize.SL.Sem

namespace Cert.KernelIdeal.Conv

open Cert.KernelIdeal Cert.KernelIdeal.Gen

variable {sig' : RefSig} {κ : Kind} {sp : Space}

/-- The rows of an extended tile, by number; nothing beyond its last row is ever asked for. -/
def rows (E : S544x512.Idx → EReal) (q : ℕ) (j : Fin 512) : EReal := if h : q < 544 then E (ix2 ⟨q, h⟩ j) else 0

/-- A direct load of sixteen rows is a window. -/
theorem window_ext (v : View sig' κ sp S544x512 .f32) (L : List (View.Piece (Elt Ideal) S544x512 .f32)) {r0 n lo : ℕ}
    (inb : ∀ a, ![lo, 0] a + ![16, 512] a ≤ S544x512.size a) (h : lo = r0 + 2 + n) :
    Window (rows (View.canon L)) r0 n (v.readCov L (Rect.unit (s := S544x512) ![lo, 0] ![16, 512] inb).toLoadRect) := by
  refine ⟨fun i j => ?_⟩
  have hb : lo + 16 ≤ 544 := inb 0
  rw [View.readCov_eq_canon', rows, dif_pos (by omega)]
  refine congrArg (View.canon L) ?_
  funext a
  match a with
  | ⟨0, _⟩ => exact Fin.ext (by simp [LoadRect.idx, Rect.unit, ix2]; omega)
  | ⟨1, _⟩ => exact Fin.ext (by simp [LoadRect.idx, Rect.unit, ix2])

/-- The seven shifted copies: copy `b` holds the extended tile from row `b + 1` on. -/
def Shifted (E : S544x512.Idx → EReal) (S : S7x536x512.Idx → EReal) : Prop :=
  ∀ (b : Fin 7) (q : Fin 536) (j : Fin 512), S (ix3 b q j) = rows E (b.val + 1 + q.val) j

theorem raised_at (y : FVec Ideal S536x512 .f32) (z : Fin 1) (q : Fin 536) (j : Fin 512) :
    (shapeCast S1x536x512 y shapeCasts_S536x512_S1x536x512 : FVec Ideal S1x536x512 .f32) (ix3 z q j) = y (ix2 q j) := by
  pointwise []

/-- A shifted copy as it is stored: the load of the extended tile from row `b + 1`, given a leading axis of length one. -/
theorem shifted_piece (v : View sig' κ sp S544x512 .f32) (L : List (View.Piece (Elt Ideal) S544x512 .f32)) {b b' : ℕ} (hb' : b' = b + 1)
    (inb : ∀ a, ![b', 0] a + ![536, 512] a ≤ S544x512.size a) (inb' : ∀ a, ![b, 0, 0] a + ![1, 536, 512] a ≤ S7x536x512.size a)
    (x : (Rect.unit (s := S7x536x512) ![b, 0, 0] ![1, 536, 512] inb').shape.Idx) :
    (shapeCast S1x536x512 (v.readCov L (Rect.unit (s := S544x512) ![b', 0] ![536, 512] inb).toLoadRect) shapeCasts_S536x512_S1x536x512 : FVec Ideal S1x536x512 .f32) x
      = (fun y : S7x536x512.Idx => rows (View.canon L) ((y 0).val + 1 + (y 1).val) (y 2)) ((Rect.unit (s := S7x536x512) ![b, 0, 0] ![1, 536, 512] inb').emb x) := by
  have hx : x = ix3 (n0 := 1) (n1 := 536) (n2 := 512) (x 0) (x 1) (x 2) := by
    funext a
    match a with
    | ⟨0, _⟩ => rfl
    | ⟨1, _⟩ => rfl
    | ⟨2, _⟩ => rfl
  rw [hx]
  have h0 : b + 1 ≤ 7 := inb' 0
  have hr : ∀ (z : Fin 1) (q : Fin 536) (j : Fin 512), (shapeCast S1x536x512 (v.readCov L (Rect.unit (s := S544x512) ![b', 0] ![536, 512] inb).toLoadRect) shapeCasts_S536x512_S1x536x512 : FVec Ideal S1x536x512 .f32)
      (ix3 z q j) = rows (View.canon L) (b + 1 + q.val) j := by
    intro z q j
    rw [raised_at, View.readCov_eq_canon', rows, dif_pos (by omega)]
    refine congrArg (View.canon L) ?_
    funext a
    match a with
    | ⟨0, _⟩ => exact Fin.ext (by simp [LoadRect.idx, Rect.unit, ix2]; omega)
    | ⟨1, _⟩ => exact Fin.ext (by simp [LoadRect.idx, Rect.unit, ix2])
  refine (hr (x 0) (x 1) (x 2)).trans ?_
  have hz : (x 0).val = 0 := by have : (x 0).val < 1 := (x 0).isLt; omega
  show rows (View.canon L) (b + 1 + (x 1).val) (x 2) = rows (View.canon L) (((Rect.unit (s := S7x536x512) ![b, 0, 0] ![1, 536, 512] inb').emb _ 0).val + 1 + ((Rect.unit (s := S7x536x512) ![b, 0, 0] ![1, 536, 512] inb').emb _ 1).val) ((Rect.unit (s := S7x536x512) ![b, 0, 0] ![1, 536, 512] inb').emb _ 2)
  congr 1
  · simp [Rect.unit, Rect.emb, ix3, hz]
  · exact Fin.ext (by simp [Rect.unit, Rect.emb, ix3])

/-- The seven stores that make the shifted copies of the extended tile whose stores are `L`, last first. -/
def copies (v : View sig' κ sp S544x512 .f32) (L : List (View.Piece (Elt Ideal) S544x512 .f32)) : List (View.Piece (Elt Ideal) S7x536x512 .f32) :=
  [⟨Rect.unit ![6, 0, 0] ![1, 536, 512] (by decide), (shapeCast S1x536x512 (v.readCov L (Rect.unit (s := S544x512) ![7, 0] ![536, 512] (by decide)).toLoadRect) shapeCasts_S536x512_S1x536x512 : FVec Ideal S1x536x512 .f32)⟩,
    ⟨Rect.unit ![5, 0, 0] ![1, 536, 512] (by decide), (shapeCast S1x536x512 (v.readCov L (Rect.unit (s := S544x512) ![6, 0] ![536, 512] (by decide)).toLoadRect) shapeCasts_S536x512_S1x536x512 : FVec Ideal S1x536x512 .f32)⟩,
    ⟨Rect.unit ![4, 0, 0] ![1, 536, 512] (by decide), (shapeCast S1x536x512 (v.readCov L (Rect.unit (s := S544x512) ![5, 0] ![536, 512] (by decide)).toLoadRect) shapeCasts_S536x512_S1x536x512 : FVec Ideal S1x536x512 .f32)⟩,
    ⟨Rect.unit ![3, 0, 0] ![1, 536, 512] (by decide), (shapeCast S1x536x512 (v.readCov L (Rect.unit (s := S544x512) ![4, 0] ![536, 512] (by decide)).toLoadRect) shapeCasts_S536x512_S1x536x512 : FVec Ideal S1x536x512 .f32)⟩,
    ⟨Rect.unit ![2, 0, 0] ![1, 536, 512] (by decide), (shapeCast S1x536x512 (v.readCov L (Rect.unit (s := S544x512) ![3, 0] ![536, 512] (by decide)).toLoadRect) shapeCasts_S536x512_S1x536x512 : FVec Ideal S1x536x512 .f32)⟩,
    ⟨Rect.unit ![1, 0, 0] ![1, 536, 512] (by decide), (shapeCast S1x536x512 (v.readCov L (Rect.unit (s := S544x512) ![2, 0] ![536, 512] (by decide)).toLoadRect) shapeCasts_S536x512_S1x536x512 : FVec Ideal S1x536x512 .f32)⟩,
    ⟨Rect.unit ![0, 0, 0] ![1, 536, 512] (by decide), (shapeCast S1x536x512 (v.readCov L (Rect.unit (s := S544x512) ![1, 0] ![536, 512] (by decide)).toLoadRect) shapeCasts_S536x512_S1x536x512 : FVec Ideal S1x536x512 .f32)⟩]

theorem copies_shifted (v : View sig' κ sp S544x512 .f32) (L : List (View.Piece (Elt Ideal) S544x512 .f32)) (L' : List (View.Piece (Elt Ideal) S7x536x512 .f32)) :
    Shifted (View.canon L) (View.canon (copies v L ++ L')) := by
  intro b q j
  refine View.canon_append_of_piecesOf (fun y : S7x536x512.Idx => rows (View.canon L) ((y 0).val + 1 + (y 1).val) (y 2)) L' (copies v L) ?_ (ix3 b q j)
    (View.cover_of_tiledL _ ![1, 536, 512] (by sl_kernel_rfl) _)
  exact ⟨shifted_piece v L rfl _ (by decide), shifted_piece v L rfl _ (by decide), shifted_piece v L rfl _ (by decide), shifted_piece v L rfl _ (by decide), shifted_piece v L rfl _ (by decide), shifted_piece v L rfl _ (by decide),
    shifted_piece v L rfl _ (by decide), trivial⟩

/-- A load of sixteen rows of a shifted copy is a window of the extended tile. -/
theorem window_shifted (v : View sig' κ sp S7x536x512 .f32) {E : FVec Ideal S544x512 .f32} (L : List (View.Piece (Elt Ideal) S7x536x512 .f32)) {r0 n b lo : ℕ}
    (hs : Shifted E (View.canon L)) (inb : ∀ a, ![b, lo, 0] a + ![1, 16, 512] a ≤ S7x536x512.size a) (h : b + 1 + lo = r0 + 2 + n) :
    Window (rows E) r0 n (flat (F := Ideal) (v.readCov L (Rect.unit (s := S7x536x512) ![b, lo, 0] ![1, 16, 512] inb).toLoadRect)) := by
  refine ⟨fun i j => ?_⟩
  have hb : b + 1 ≤ 7 := inb 0
  have hl : lo + 16 ≤ 536 := inb 1
  rw [flat_at, View.readCov_eq_canon']
  refine Eq.trans (congrArg (View.canon _) ?_) ((hs ⟨b, by omega⟩ ⟨lo + i.val, by omega⟩ j).trans ?_)
  · funext a
    match a with
    | ⟨0, _⟩ => exact Fin.ext (by simp [LoadRect.idx, Rect.unit, ix3])
    | ⟨1, _⟩ => exact Fin.ext (by simp [LoadRect.idx, Rect.unit, ix3])
    | ⟨2, _⟩ => exact Fin.ext (by simp [LoadRect.idx, Rect.unit, ix3])
  · exact congrArg (fun q => rows E q j) (by simp only; omega)

/-- Tap `n`'s eight rows of weights, loaded from the array that repeats each tap's row eight times. -/
theorem weights_ld {V : ℕ → Fin 512 → EReal} (W : FVec Ideal S248x512 .f32) (hW : ∀ n (hn : n < 31) (i : Fin 8) j, W (ix2 ⟨8 * n + i.val, by omega⟩ j) = V n j)
    {n lo : ℕ} (inb : ∀ a, ![lo, 0] a + ![8, 512] a ≤ S248x512.size a) (h : lo = 8 * n) :
    Weights V n (View.ld (Val := Elt Ideal) (e' := .f32) W (Rect.unit (s := S248x512) ![lo, 0] ![8, 512] inb)) := by
  refine ⟨fun i j => ?_⟩
  have hb : lo + 8 ≤ 248 := inb 0
  refine Eq.trans (congrArg W ?_) (hW n (by omega) i j)
  funext a
  match a with
  | ⟨0, _⟩ => exact Fin.ext (by simp [Rect.unit, ix2, Rect.emb]; omega)
  | ⟨1, _⟩ => exact Fin.ext (by simp [Rect.unit, ix2, Rect.emb])

/-- The mixer's rows as a tile. -/
def mixTile (E V : ℕ → Fin 512 → EReal) (b g be : Fin 512 → EReal) (y : S512x512.Idx) : EReal := mixAt E V b g be (y 0).val (y 1)

/-- A stored row block is the mixer's rows at the place it is stored to. -/
theorem piece_ok {E V : ℕ → Fin 512 → EReal} {b : Fin 512 → EReal} {g be : FVec Ideal S1x512 .f32} {r0 : ℕ} {acc : FVec Ideal S16x512 .f32}
    (inb : ∀ a, ![r0, 0] a + ![16, 512] a ≤ S512x512.size a) (h : Holds E V b r0 31 acc) (x : (Rect.unit (s := S512x512) ![r0, 0] ![16, 512] inb).shape.Idx) :
    finish (F := Ideal) acc g be x = mixTile E V b (fun l => g (ix2 0 l)) (fun l => be (ix2 0 l))
      ((Rect.unit (s := S512x512) ![r0, 0] ![16, 512] inb).emb x) := by
  have hx : x = ix2 (n0 := 16) (n1 := 512) (x 0) (x 1) := by
    funext a
    match a with
    | ⟨0, _⟩ => rfl
    | ⟨1, _⟩ => rfl
  rw [hx]
  refine (h.finish _ _).trans ?_
  show mixAt E V b _ _ (r0 + (x 0).val) (x 1) = mixAt E V b _ _ ((Rect.unit (s := S512x512) ![r0, 0] ![16, 512] inb).emb _ 0).val ((Rect.unit (s := S512x512) ![r0, 0] ![16, 512] inb).emb _ 1)
  congr 1
  · simp [Rect.unit, Rect.emb, ix2]
  · exact Fin.ext (by simp [Rect.unit, Rect.emb, ix2])

/-- Stores of finished row blocks all agree with the mixer's rows, one store at a time. -/
theorem pieces_cons {E V : ℕ → Fin 512 → EReal} {b : Fin 512 → EReal} {g be : FVec Ideal S1x512 .f32} {r0 : ℕ} {acc : FVec Ideal S16x512 .f32}
    {L : List (View.Piece (Elt Ideal) S512x512 .bf16)} (inb : ∀ a, ![r0, 0] a + ![16, 512] a ≤ S512x512.size a) (h : Holds E V b r0 31 acc)
    (hL : View.PiecesOf (mixTile E V b (fun l => g (ix2 0 l)) (fun l => be (ix2 0 l))) L) :
    View.PiecesOf (mixTile E V b (fun l => g (ix2 0 l)) (fun l => be (ix2 0 l)))
      (⟨Rect.unit (s := S512x512) ![r0, 0] ![16, 512] inb, finish (F := Ideal) acc g be⟩ :: L) :=
  ⟨piece_ok inb h, hL⟩

/-- Stores that are blocks of `G` and cover an index leave `G` there. -/
theorem canon_of_pieces {s : Shape} {e : EltTy} (G : s.Idx → Elt Ideal e) (L : List (View.Piece (Elt Ideal) s e)) (y : s.Idx) (hc : ∃ p ∈ L, y ∈ p.1.set)
    (h : View.PiecesOf G L) : View.canon L y = G y :=
  View.canon_eq_of_allAt L y (G y) hc fun p hp x hx => hx ▸ h.mem p hp x

/-- The same for the newest `k` stores, over any earlier ones. -/
theorem canon_of_newest {s : Shape} {e : EltTy} (k : ℕ) (G : s.Idx → Elt Ideal e) (L : List (View.Piece (Elt Ideal) s e)) (y : s.Idx)
    (hc : ∃ p ∈ L.take k, y ∈ p.1.set) (h : View.PiecesOf G (L.take k)) : View.canon L y = G y := by
  have e := View.canon_append_of_piecesOf G (L.drop k) (L.take k) h y hc
  rwa [List.take_append_drop] at e

/-- A halo of 32 rows and a tile of 512 rows under it. -/
def joined (halo : FVec Ideal S32x512 .f32) (tile : FVec Ideal S512x512 .f32) (y : S544x512.Idx) : EReal :=
  if h : (y 0).val < 32 then halo (ix2 ⟨(y 0).val, h⟩ (y 1)) else tile (ix2 ⟨(y 0).val - 32, by have := (y 0).isLt; simp [S544x512] at this; omega⟩ (y 1))

/-- The two stores that fill the extended tile, over any earlier ones, join the halo and the tile. -/
theorem canon_joined (tile : FVec Ideal S512x512 .f32) (halo : FVec Ideal S32x512 .f32) (L : List (View.Piece (Elt Ideal) S544x512 .f32)) :
    View.canon (Val := Elt Ideal) (s := S544x512) (e := .f32)
      (⟨Rect.unit (s := S544x512) ![32, 0] ![512, 512] (by decide), tile⟩ :: ⟨Rect.unit (s := S544x512) ![0, 0] ![32, 512] (by decide), halo⟩ :: L)
      = joined halo tile := by
  funext y
  refine canon_of_newest (s := S544x512) (e := .f32) 2 (joined halo tile) _ y (View.cover_of_tiledBy _ ![32, 512] (by sl_kernel_rfl) y) ?_
  refine ⟨fun x => ?_, fun x => ?_, trivial⟩
  · have h : ¬ ((Rect.unit (s := S544x512) ![32, 0] ![512, 512] (by decide)).emb x 0).val < 32 := by
      simp [Rect.unit, Rect.emb]
    rw [joined, dif_neg h]
    refine congrArg tile ?_
    funext a
    match a with
    | ⟨0, _⟩ => exact Fin.ext (by simp [Rect.unit, ix2, Rect.emb])
    | ⟨1, _⟩ => exact Fin.ext (by simp [Rect.unit, ix2, Rect.emb])
  · have h : ((Rect.unit (s := S544x512) ![0, 0] ![32, 512] (by decide)).emb x 0).val < 32 := by
      have := (x 0).isLt
      simp [Rect.unit, Rect.emb] at this ⊢
      omega
    rw [joined, dif_pos h]
    refine congrArg halo ?_
    funext a
    match a with
    | ⟨0, _⟩ => exact Fin.ext (by simp [Rect.unit, ix2, Rect.emb])
    | ⟨1, _⟩ => exact Fin.ext (by simp [Rect.unit, ix2, Rect.emb])

end Cert.KernelIdeal.Conv

end
-- ==== Proof.Later.lean ====
module

public import proofs.«01_k».proof.Proof.Gen.KernelIdeal.Value
public import proofs.«01_k».proof.Proof.Closing
public import proofs.«01_k».proof.Proof.Windows

/-!
A grid point after the first: what it leaves in the extended tile, in the convolution's scratch and in the output block.
-/

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.KernelIdeal.Conv Cert.KernelIdeal.Closing

variable (m : (ℓ : Loc nD τ sig) → Buf (Elt Ideal) ℓ)

/-- The extended tile a point builds: its halo, kept from the last rows of the previous extended tile or zero at a sequence's start, and then the tile `un`. -/
def extTile (i : grid0.Coords) (prev : FVec Ideal S544x512 .f32) (un : FVec Ideal S512x512 .f32) : FVec Ideal S544x512 .f32 :=
  View.canon (Val := Elt Ideal) (s := S544x512) (e := .f32) [⟨Rect.unit ![32, 0] ![512, 512] inb_S544x512_S512x512_32_0, k0_pay441 (F := Ideal) un⟩,
    ⟨Rect.unit ![0, 0] ![32, 512] inb_S544x512_S32x512_0_0, k0_pay440 (F := Ideal) i (View.ld (Val := Elt Ideal) (e' := .f32) prev (Rect.unit ![512, 0] ![32, 512] inb_S544x512_S32x512_512_0))⟩]

/-- The same tile as a halo joined to the tile. -/
theorem extTile_eq (i : grid0.Coords) (prev : FVec Ideal S544x512 .f32) (un : FVec Ideal S512x512 .f32) :
    extTile i prev un = joined (k0_pay440 (F := Ideal) i (View.ld (Val := Elt Ideal) (e' := .f32) prev (Rect.unit ![512, 0] ![32, 512] inb_S544x512_S32x512_512_0)))
      (k0_pay441 (F := Ideal) un) := canon_joined _ _ []

/-- The extended tile after a later point. -/
theorem ext_later (c : Dev nD) (t : Fin cfg0.N) (h : ¬ t.val % 64 = 0) :
    (outsAt0 m c t.val t.isLt).2.2 = extTile (grid0.coords t) (outsAt0 m c (t.val - 1) (by omega)).2.2 (iblk m c 2 t) := by
  rw [outsAt0_B m c t h]
  frame_open
  frame_out
  simp only [read_unread_whole]

set_option maxHeartbeats 2000000
 in
/-- The convolution's scratch after a later point. -/
theorem conv_later (c : Dev nD) (t : Fin cfg0.N) (h : ¬ t.val % 64 = 0) (V : ℕ → Fin 512 → EReal)
    (hW : ∀ n (hn : n < 31) (i : Fin 8) j, (iblk m c 4 t : FVec Ideal S248x512 .f32) (ix2 ⟨8 * n + i.val, by omega⟩ j) = V n j) (y : S512x512.Idx) :
    ((outsAt0 m c t.val t.isLt).2.1 : FVec Ideal S512x512 .bf16) y
      = mixTile (rows (extTile (grid0.coords t) (outsAt0 m c (t.val - 1) (by omega)).2.2 (iblk m c 2 t))) V
          (fun x => (iblk m c 5 t : FVec Ideal S1x512 .f32) (ix2 0 x)) (fun x => (iblk m c 6 t : FVec Ideal S1x512 .f32) (ix2 0 x))
          (fun x => (iblk m c 7 t : FVec Ideal S1x512 .f32) (ix2 0 x)) y := by
  rw [outsAt0_B m c t h]
  frame_open
  frame_out
  simp only [read_unread_whole]
  refine canon_of_pieces _ _ _ (View.cover_of_tiledL _ ![16, 512] (by sl_kernel_rfl) _) ?_
  refine pieces_cons (by decide) ?_ ?_
  on_goal 1 =>
    iterate 3
      refine Holds.tap ?_ (window_ext _ _ _ (by rfl)) (weights_ld _ hW _ (by rfl))
      iterate 7 refine Holds.tap ?_ (window_shifted _ _ ?hs _ (by rfl)) (weights_ld _ hW _ (by rfl))
    refine Holds.tap ?_ (window_ext _ _ _ (by rfl)) (weights_ld _ hW _ (by rfl))
    iterate 6 refine Holds.tap ?_ (window_shifted _ _ ?hs _ (by rfl)) (weights_ld _ hW _ (by rfl))
    apply Holds.start
  rotate_left
  iterate 31
    refine pieces_cons (by decide) ?_ ?_
    on_goal 1 =>
      iterate 3
        refine Holds.tap ?_ (window_ext _ _ _ (by rfl)) (weights_ld _ hW _ (by rfl))
        iterate 7 refine Holds.tap ?_ (window_shifted _ _ ?hs _ (by rfl)) (weights_ld _ hW _ (by rfl))
      refine Holds.tap ?_ (window_ext _ _ _ (by rfl)) (weights_ld _ hW _ (by rfl))
      iterate 6 refine Holds.tap ?_ (window_shifted _ _ ?hs _ (by rfl)) (weights_ld _ hW _ (by rfl))
      apply Holds.start
  · exact trivial
  · exact copies_shifted _ _ []

/-- What a point writes into its output block: the closing steps of its tokens, over a convolution tile `c`. -/
def closed (c : Dev nD) (t : Fin cfg0.N) (conv : FVec Ideal S512x512 .bf16) (i : Fin 512) (j : Fin 1024) : EReal :=
  Closing.tailAt (Closing.residAt (fun l => (iblk m c 0 t : FVec Ideal S512x1024 .f32) (ix2 i l)) (fun k => conv (ix2 i k))
      (fun k => (iblk m c 3 t : FVec Ideal S512x512 .bf16) (ix2 i k)) (fun k l => (iblk m c 8 t : FVec Ideal S512x1024 .bf16) (ix2 k l))
      (fun k l => (iblk m c 9 t : FVec Ideal S512x1024 .bf16) (ix2 k l)))
    (fun l => (iblk m c 10 t : FVec Ideal S1x1024 .f32) (ix2 0 l)) (fun l k => (iblk m c 11 t : FVec Ideal S1024x4096 .bf16) (ix2 l k))
    (fun k l => (iblk m c 12 t : FVec Ideal S4096x1024 .bf16) (ix2 k l)) (fun l => (iblk m c 13 t : FVec Ideal S1x1024 .f32) (ix2 0 l)) j

/-- The output block after a later point: it closes over the convolution tile the point before left. -/
theorem out_later (c : Dev nD) (t : Fin cfg0.N) (h : ¬ t.val % 64 = 0) (i : Fin 512) (j : Fin 1024) :
    ((outsAt0 m c t.val t.isLt).1 : FVec Ideal S512x1024 .f32) (ix2 i j) = closed m c t (outsAt0 m c (t.val - 1) (by omega)).2.1 i j := by
  rw [outsAt0_B m c t h]
  frame_open
  frame_out
  simp only [read_unread_whole]
  exact Closing.stored_at _ _ _ _ _ _ _ _ _ i j

end Cert.KernelIdeal.Tile

end
-- ==== Proof.First.lean ====
module

public import proofs.«01_k».proof.Proof.Gen.KernelIdeal.Value
public import proofs.«01_k».proof.Proof.Later

/-!
The first grid point, which convolves the first tile before the second: what it leaves in the extended tile, in the convolution's scratch and in the
output block.
-/

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.KernelIdeal.Conv Cert.KernelIdeal.Closing

variable (m : (ℓ : Loc nD τ sig) → Buf (Elt Ideal) ℓ)

/-- The extended tile of the first tile: no rows before it, then the tile. -/
def startTile (u0 : FVec Ideal S512x512 .f32) : FVec Ideal S544x512 .f32 := joined (fun _ => 0) u0

/-- The first convolution's two stores into the extended tile, over any earlier ones, leave the first tile's extended tile. -/
theorem start_over (u0 : FVec Ideal S512x512 .f32) (x : FVec Ideal S32x512 .f32) (L : List (View.Piece (Elt Ideal) S544x512 .f32)) :
    View.canon (Val := Elt Ideal) (s := S544x512) (e := .f32) (⟨Rect.unit ![32, 0] ![512, 512] inb_S544x512_S512x512_32_0, k0_pay3 (F := Ideal) u0⟩
      :: ⟨Rect.unit ![0, 0] ![32, 512] inb_S544x512_S32x512_0_0, k0_pay2 (F := Ideal) x⟩ :: L) = startTile u0 := by
  refine (canon_joined _ _ L).trans ?_
  have h2 : k0_pay2 (F := Ideal) x = fun _ => 0 := by
    funext y
    rw [show y = ix2 (n0 := 32) (n1 := 512) (y 0) (y 1) from by
      funext a
      match a with
      | ⟨0, _⟩ => rfl
      | ⟨1, _⟩ => rfl]
    pointwise [k0_pay2]
  have h3 : k0_pay3 (F := Ideal) u0 = u0 := by
    funext y
    rw [show y = ix2 (n0 := 512) (n1 := 512) (y 0) (y 1) from by
      funext a
      match a with
      | ⟨0, _⟩ => rfl
      | ⟨1, _⟩ => rfl]
    pointwise [k0_pay3]
  rw [h2, h3, startTile]

/-- The second convolution's two stores, over any earlier ones, leave the extended tile built on the one its halo is loaded from. -/
theorem tile_over {sig' : RefSig} {κ : Kind} {sp : Space} (v : View sig' κ sp S544x512 .f32) (i : grid0.Coords) (un : FVec Ideal S512x512 .f32)
    (L0 L : List (View.Piece (Elt Ideal) S544x512 .f32)) :
    View.canon (Val := Elt Ideal) (s := S544x512) (e := .f32) (⟨Rect.unit ![32, 0] ![512, 512] inb_S544x512_S512x512_32_0, k0_pay441 (F := Ideal) un⟩
      :: ⟨Rect.unit ![0, 0] ![32, 512] inb_S544x512_S32x512_0_0,
          k0_pay440 (F := Ideal) i (v.readCov L0 (Rect.unit (s := S544x512) ![512, 0] ![32, 512] inb_S544x512_S32x512_512_0).toLoadRect)⟩ :: L) = extTile i (View.canon L0) un := by
  refine (canon_joined _ _ L).trans ?_
  rw [View.readCov_eq_canon', extTile_eq]

/-- The stores into the extended tile before the second convolution, last first: the fill with zeros, then the first convolution's halo and tile. -/
def started (u0 : FVec Ideal S512x512 .f32) : List (View.Piece (Elt Ideal) S544x512 .f32) :=
  [⟨Rect.unit ![32, 0] ![512, 512] inb_S544x512_S512x512_32_0, k0_pay3 (F := Ideal) u0⟩,
    ⟨Rect.unit ![0, 0] ![32, 512] inb_S544x512_S32x512_0_0, k0_pay2 (F := Ideal) (View.readCov (Val := Elt Ideal) (s := S544x512) (e := .f32) (View.whole cc0_scratch1)
      [⟨Rect.unit ![0, 0] ![544, 512] inb_S544x512_S544x512_0_0, k0_pay1 (F := Ideal)⟩] (Rect.unit (s := S544x512) ![512, 0] ![32, 512] inb_S544x512_S32x512_512_0).toLoadRect)⟩,
    ⟨Rect.unit ![0, 0] ![544, 512] inb_S544x512_S544x512_0_0, k0_pay1 (F := Ideal)⟩]

theorem started_eq (u0 : FVec Ideal S512x512 .f32) : View.canon (Val := Elt Ideal) (s := S544x512) (e := .f32) (started u0) = startTile u0 := start_over u0 _ _

/-- The stores into the extended tile at the first point, last first: the second convolution's halo and tile over the earlier ones. -/
def continued (i : grid0.Coords) (u0 un : FVec Ideal S512x512 .f32) : List (View.Piece (Elt Ideal) S544x512 .f32) :=
  ⟨Rect.unit ![32, 0] ![512, 512] inb_S544x512_S512x512_32_0, k0_pay441 (F := Ideal) un⟩
    :: ⟨Rect.unit ![0, 0] ![32, 512] inb_S544x512_S32x512_0_0, k0_pay440 (F := Ideal) i (View.readCov (Val := Elt Ideal) (s := S544x512) (e := .f32)
      (View.whole cc0_scratch1) (started u0) (Rect.unit (s := S544x512) ![512, 0] ![32, 512] inb_S544x512_S32x512_512_0).toLoadRect)⟩ :: started u0

theorem continued_eq (i : grid0.Coords) (u0 un : FVec Ideal S512x512 .f32) :
    View.canon (Val := Elt Ideal) (s := S544x512) (e := .f32) (continued i u0 un) = extTile i (startTile u0) un :=
  (tile_over _ i un _ _).trans (congrArg (fun T => extTile i T un) (started_eq u0))

/-- The extended tile after the first point. -/
theorem ext_first (c : Dev nD) (t : Fin cfg0.N) (h : t.val % 64 = 0) :
    ((outsAt0 m c t.val t.isLt).2.2 : FVec Ideal S544x512 .f32) = extTile (grid0.coords t) (startTile (iblk m c 1 t)) (iblk m c 2 t) := by
  rw [← continued_eq, outsAt0_A m c t h]
  frame_open
  frame_out
  rfl

set_option maxHeartbeats 2000000 in
/-- The convolution's scratch after the first point: the second tile's mixer. -/
theorem conv_first (c : Dev nD) (t : Fin cfg0.N) (h : t.val % 64 = 0) (V : ℕ → Fin 512 → EReal)
    (hW : ∀ n (hn : n < 31) (i : Fin 8) j, (iblk m c 4 t : FVec Ideal S248x512 .f32) (ix2 ⟨8 * n + i.val, by omega⟩ j) = V n j) (y : S512x512.Idx) :
    ((outsAt0 m c t.val t.isLt).2.1 : FVec Ideal S512x512 .bf16) y
      = mixTile (rows (extTile (grid0.coords t) (startTile (iblk m c 1 t)) (iblk m c 2 t))) V (fun x => (iblk m c 5 t : FVec Ideal S1x512 .f32) (ix2 0 x))
          (fun x => (iblk m c 6 t : FVec Ideal S1x512 .f32) (ix2 0 x)) (fun x => (iblk m c 7 t : FVec Ideal S1x512 .f32) (ix2 0 x)) y := by
  rw [← continued_eq, outsAt0_A m c t h]
  frame_open
  frame_out
  refine canon_of_newest 32 _ _ _ (View.cover_of_tiledL _ ![16, 512] (by sl_kernel_rfl) _) ?_
  refine pieces_cons (by decide) ?_ ?_
  on_goal 1 =>
    iterate 3
      refine Holds.tap ?_ (window_ext _ _ _ (by rfl)) (weights_ld _ hW _ (by rfl))
      iterate 7 refine Holds.tap ?_ (window_shifted _ _ ?hs _ (by rfl)) (weights_ld _ hW _ (by rfl))
    refine Holds.tap ?_ (window_ext _ _ _ (by rfl)) (weights_ld _ hW _ (by rfl))
    iterate 6 refine Holds.tap ?_ (window_shifted _ _ ?hs _ (by rfl)) (weights_ld _ hW _ (by rfl))
    apply Holds.start
  rotate_left
  iterate 31
    refine pieces_cons (by decide) ?_ ?_
    on_goal 1 =>
      iterate 3
        refine Holds.tap ?_ (window_ext _ _ _ (by rfl)) (weights_ld _ hW _ (by rfl))
        iterate 7 refine Holds.tap ?_ (window_shifted _ _ ?hs _ (by rfl)) (weights_ld _ hW _ (by rfl))
      refine Holds.tap ?_ (window_ext _ _ _ (by rfl)) (weights_ld _ hW _ (by rfl))
      iterate 6 refine Holds.tap ?_ (window_shifted _ _ ?hs _ (by rfl)) (weights_ld _ hW _ (by rfl))
      apply Holds.start
  · exact trivial
  · exact copies_shifted _ _ _

set_option maxHeartbeats 2000000 in
/-- The output block after the first point: it closes over the first tile's mixer. -/
theorem out_first (c : Dev nD) (t : Fin cfg0.N) (h : t.val % 64 = 0) (V : ℕ → Fin 512 → EReal)
    (hW : ∀ n (hn : n < 31) (i : Fin 8) j, (iblk m c 4 t : FVec Ideal S248x512 .f32) (ix2 ⟨8 * n + i.val, by omega⟩ j) = V n j) (i : Fin 512) (j : Fin 1024) :
    ((outsAt0 m c t.val t.isLt).1 : FVec Ideal S512x1024 .f32) (ix2 i j) = closed m c t (mixTile (rows (startTile (iblk m c 1 t))) V (fun x => (iblk m c 5 t : FVec Ideal S1x512 .f32) (ix2 0 x))
          (fun x => (iblk m c 6 t : FVec Ideal S1x512 .f32) (ix2 0 x)) (fun x => (iblk m c 7 t : FVec Ideal S1x512 .f32) (ix2 0 x))) i j := by
  rw [← started_eq, outsAt0_A m c t h]
  frame_open
  frame_out
  refine (Closing.stored_at _ _ _ _ _ _ _ _ _ i j).trans (congrArg (fun T => closed m c t T i j) (funext fun y => ?_))
  rw [View.readCov_eq_canon']
  refine Eq.trans (congrArg _ (?_ : _ = y)) (canon_of_pieces _ _ _ (View.cover_of_tiledL _ ![16, 512] (by sl_kernel_rfl) _) ?_)
  · funext a
    match a with
    | ⟨0, _⟩ => exact Fin.ext (by simp [LoadRect.idx, Rect.unit])
    | ⟨1, _⟩ => exact Fin.ext (by simp [LoadRect.idx, Rect.unit])
  refine pieces_cons (by decide) ?_ ?_
  on_goal 1 =>
    iterate 3
      refine Holds.tap ?_ (window_ext _ _ _ (by rfl)) (weights_ld _ hW _ (by rfl))
      iterate 7 refine Holds.tap ?_ (window_shifted _ _ ?hs _ (by rfl)) (weights_ld _ hW _ (by rfl))
    refine Holds.tap ?_ (window_ext _ _ _ (by rfl)) (weights_ld _ hW _ (by rfl))
    iterate 6 refine Holds.tap ?_ (window_shifted _ _ ?hs _ (by rfl)) (weights_ld _ hW _ (by rfl))
    apply Holds.start
  rotate_left
  iterate 31
    refine pieces_cons (by decide) ?_ ?_
    on_goal 1 =>
      iterate 3
        refine Holds.tap ?_ (window_ext _ _ _ (by rfl)) (weights_ld _ hW _ (by rfl))
        iterate 7 refine Holds.tap ?_ (window_shifted _ _ ?hs _ (by rfl)) (weights_ld _ hW _ (by rfl))
      refine Holds.tap ?_ (window_ext _ _ _ (by rfl)) (weights_ld _ hW _ (by rfl))
      iterate 6 refine Holds.tap ?_ (window_shifted _ _ ?hs _ (by rfl)) (weights_ld _ hW _ (by rfl))
      apply Holds.start
  · exact trivial
  · exact copies_shifted _ _ _

end Cert.KernelIdeal.Tile

end
-- ==== Proof.Blocks.lean ====
module

public import proofs.«01_k».proof.Proof.First

/-!
What the call's windows hold: each input block read at an index as the argument's entry there.
-/

@[expose] public section

set_option maxRecDepth 16384

noncomputable section

open Idealize.ShloMosaic Idealize.ShloMosaic.TcCoe Idealize.SL.Sem

namespace Cert.KernelIdeal.Blocks

open Cert.KernelIdeal Cert.KernelIdeal.Gen

variable (m : (ℓ : Loc nD τ sig) → Buf (Elt Ideal) ℓ)

/-- The grid has 64 points. -/
theorem lt64 (t : Fin cfg0.N) : t.val < 64 := lt_of_lt_of_eq t.isLt N_0

/-- Which block each window holds at a point. -/
theorem idx : ∀ t : Fin cfg0.N, win0_0.index t = ![t.val, 0] ∧ win0_1.index t = ![0, 0] ∧ win0_2.index t = ![min (t.val + 1) 63, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![t.val, 0] :=
  (by decide +kernel : ∀ t : Fin grid0.N, _)

/-- The tokens of a tile. -/
theorem x_read (c : Dev nD) (t : Fin cfg0.N) (i : Fin 512) (j : Fin 1024) :
    (iblk m c 0 t : FVec Ideal S512x1024 .f32) (ix2 i j) = (m ((c : Thread nD τ).loc main_arg0) : FVec Ideal S8x4096x1024 .f32) (ix3 ⟨(512 * t.val + i.val) / 4096, by have := lt64 t; omega⟩ ⟨(512 * t.val + i.val) % 4096, by omega⟩ j) := by
  blk_simp [iblk, V, idx t]
  entry_read
  pointwise
  blk_ext [idx t]

/-- The first tile of the convolution's input. -/
theorem u0_read (c : Dev nD) (t : Fin cfg0.N) (i : Fin 512) (j : Fin 512) :
    (iblk m c 1 t : FVec Ideal S512x512 .f32) (ix2 i j) = (m ((c : Thread nD τ).loc main_arg1) : FVec Ideal S8x4096x512 .f32) (ix3 0 ⟨i.val, by omega⟩ j) := by
  blk_simp [iblk, V, idx t]
  entry_read
  pointwise
  blk_ext [idx t]

/-- The next tile of the convolution's input, at every point but the last. -/
theorem un_read (c : Dev nD) (t : Fin cfg0.N) (h : t.val < 63) (i : Fin 512) (j : Fin 512) :
    (iblk m c 2 t : FVec Ideal S512x512 .f32) (ix2 i j) = (m ((c : Thread nD τ).loc main_arg1) : FVec Ideal S8x4096x512 .f32) (ix3 ⟨(512 * (t.val + 1) + i.val) / 4096, by omega⟩ ⟨(512 * (t.val + 1) + i.val) % 4096, by omega⟩ j) := by
  blk_simp [iblk, V, idx t]
  entry_read
  pointwise
  blk_ext [idx t]

/-- The attention's rows of a tile. -/
theorem a_read (c : Dev nD) (t : Fin cfg0.N) (i : Fin 512) (j : Fin 512) :
    (iblk m c 3 t : FVec Ideal S512x512 .bf16) (ix2 i j) = (m ((c : Thread nD τ).loc main_arg2) : FVec Ideal S8x4096x512 .bf16) (ix3 ⟨(512 * t.val + i.val) / 4096, by have := lt64 t; omega⟩ ⟨(512 * t.val + i.val) % 4096, by omega⟩ j) := by
  blk_simp [iblk, V, idx t]
  entry_read
  pointwise
  blk_ext [idx t]

/-- The convolution's weights: each tap's row eight times. -/
theorem w_read (c : Dev nD) (t : Fin cfg0.N) (n : ℕ) (hn : n < 31) (i : Fin 8) (j : Fin 512) :
    (iblk m c 4 t : FVec Ideal S248x512 .f32) (ix2 ⟨8 * n + i.val, by omega⟩ j) = (m ((c : Thread nD τ).loc main_arg3) : FVec Ideal S1x31x1x512 .f32)
      (ix4 0 ⟨n, hn⟩ 0 j) := by
  blk_simp [iblk, V, idx t]
  entry_read
  pointwise
  blk_ext [idx t]

/-- The convolution's bias. -/
theorem b_read (c : Dev nD) (t : Fin cfg0.N) (j : Fin 512) :
    (iblk m c 5 t : FVec Ideal S1x512 .f32) (ix2 0 j) = (m ((c : Thread nD τ).loc main_arg4) : FVec Ideal S1x512 .f32) (ix2 0 j) := by
  blk_simp [iblk, V, idx t]
  entry_read
  pointwise
  blk_ext [idx t]

/-- The layer norm's scale. -/
theorem g_read (c : Dev nD) (t : Fin cfg0.N) (j : Fin 512) :
    (iblk m c 6 t : FVec Ideal S1x512 .f32) (ix2 0 j) = (m ((c : Thread nD τ).loc main_arg5) : FVec Ideal S1x512 .f32) (ix2 0 j) := by
  blk_simp [iblk, V, idx t]
  entry_read
  pointwise
  blk_ext [idx t]

/-- The layer norm's shift. -/
theorem be_read (c : Dev nD) (t : Fin cfg0.N) (j : Fin 512) :
    (iblk m c 7 t : FVec Ideal S1x512 .f32) (ix2 0 j) = (m ((c : Thread nD τ).loc main_arg6) : FVec Ideal S1x512 .f32) (ix2 0 j) := by
  blk_simp [iblk, V, idx t]
  entry_read
  pointwise
  blk_ext [idx t]

/-- The output projection's rows for the convolution. -/
theorem wc_read (c : Dev nD) (t : Fin cfg0.N) (i : Fin 512) (j : Fin 1024) :
    (iblk m c 8 t : FVec Ideal S512x1024 .bf16) (ix2 i j) = (m ((c : Thread nD τ).loc main_arg7) : FVec Ideal S1x1024x1024 .f32) (ix3 0 ⟨i.val, by omega⟩ j) := by
  blk_simp [iblk, V, idx t]
  entry_read
  pointwise
  blk_ext [idx t]

/-- The output projection's rows for the attention. -/
theorem wa_read (c : Dev nD) (t : Fin cfg0.N) (i : Fin 512) (j : Fin 1024) :
    (iblk m c 9 t : FVec Ideal S512x1024 .bf16) (ix2 i j) = (m ((c : Thread nD τ).loc main_arg7) : FVec Ideal S1x1024x1024 .f32) (ix3 0 ⟨512 + i.val, by omega⟩ j) := by
  blk_simp [iblk, V, idx t]
  entry_read
  pointwise
  blk_ext [idx t]

/-- The second norm's scale. -/
theorem g2_read (c : Dev nD) (t : Fin cfg0.N) (j : Fin 1024) :
    (iblk m c 10 t : FVec Ideal S1x1024 .f32) (ix2 0 j) = (m ((c : Thread nD τ).loc main_arg8) : FVec Ideal S1x1024 .f32) (ix2 0 j) := by
  blk_simp [iblk, V, idx t]
  entry_read
  pointwise
  blk_ext [idx t]

/-- The feed-forward part's first matrix. -/
theorem w1_read (c : Dev nD) (t : Fin cfg0.N) (i : Fin 1024) (j : Fin 4096) :
    (iblk m c 11 t : FVec Ideal S1024x4096 .bf16) (ix2 i j) = (m ((c : Thread nD τ).loc main_arg9) : FVec Ideal S1x1024x4096 .f32) (ix3 0 i j) := by
  blk_simp [iblk, V, idx t]
  entry_read
  pointwise
  blk_ext [idx t]

/-- The feed-forward part's second matrix. -/
theorem w2_read (c : Dev nD) (t : Fin cfg0.N) (i : Fin 4096) (j : Fin 1024) :
    (iblk m c 12 t : FVec Ideal S4096x1024 .bf16) (ix2 i j) = (m ((c : Thread nD τ).loc main_arg10) : FVec Ideal S1x4096x1024 .f32) (ix3 0 i j) := by
  blk_simp [iblk, V, idx t]
  entry_read
  pointwise
  blk_ext [idx t]

/-- The last norm's scale. -/
theorem gf_read (c : Dev nD) (t : Fin cfg0.N) (j : Fin 1024) :
    (iblk m c 13 t : FVec Ideal S1x1024 .f32) (ix2 0 j) = (m ((c : Thread nD τ).loc main_arg11) : FVec Ideal S1024 .f32) (ix1 j) := by
  blk_simp [iblk, V, idx t]
  entry_read
  pointwise
  blk_ext [idx t]

end Cert.KernelIdeal.Blocks

end
-- ==== Proof.Tiles.lean ====
module

public import proofs.«01_k».proof.Proof.Blocks
public import proofs.«01_k».proof.Proof.Wanted

/-!
What is carried from one grid point to the next. After point `t` the extended tile holds the rows tile `t + 1` sees, the convolution's scratch holds that
tile's mixer, and the output block holds tile `t`'s rows of the layer.
-/

@[expose] public section

set_option maxRecDepth 16384

noncomputable section

open Idealize.ShloMosaic Idealize.ShloMosaic.TcCoe Idealize.SL.Sem

namespace Cert.KernelIdeal.Tile

open Cert.KernelIdeal Cert.KernelIdeal.Gen Cert.KernelIdeal.Conv Cert.KernelIdeal.Blocks Cert.ReferenceIdeal.Wanted

/-- Row `q` of tile `T`'s extended tile: the row of its sequence `30` before, or zero before the sequence's start. -/
def tileRows (u : FVec Ideal S8x4096x512 .f32) (T : ℕ) (hT : T < 64) (q : ℕ) (j : Fin 512) : EReal := padAt u ⟨T / 8, by omega⟩ (T % 8 * 512 + q - 2) j

/-- Partial sums over rows that agree where they are read agree. -/
theorem convAt_congr {E E' V : ℕ → Fin 512 → EReal} {b : Fin 512 → EReal} {q q' : ℕ} {j : Fin 512} :
    ∀ n : ℕ, (∀ k, k < n → E (q + 2 + k) j = E' (q' + 2 + k) j) → convAt E V b n q j = convAt E' V b n q' j
  | 0, _ => rfl
  | n + 1, h => by
    simp only [convAt]
    rw [convAt_congr n fun k hk => h k (by omega), h n (by omega)]

theorem mixAt_congr {E E' V : ℕ → Fin 512 → EReal} {b g be : Fin 512 → EReal} {q q' : ℕ} (h : ∀ k j, k < 31 → E (q + 2 + k) j = E' (q' + 2 + k) j) (j : Fin 512) :
    mixAt E V b g be q j = mixAt E' V b g be q' j :=
  congrArg (fun f => gateAt f g be j) (funext fun x => convAt_congr 31 fun k hk => h k x hk)

/-- Whether the tile after the point at coordinate word `a` starts a sequence. -/
def startsSequence (arg0 : BitVec 32) : BitVec 1 :=
  let v7 : BitVec 32 := Scalar.muli (Scalar.addi arg0 1#32) 512#32
  let v9 : BitVec 32 := Scalar.select (Scalar.cmpi .eq 4096#32 0#32) 1#32 4096#32
  let v10 : BitVec 32 := Scalar.remsi v7 v9
  let v15 : BitVec 1 := Scalar.andi (Scalar.xori (Scalar.cmpi .slt v10 0#32) (Scalar.cmpi .slt v9 0#32)) (Scalar.cmpi .ne v10 0#32)
  Scalar.cmpi .eq (Scalar.select v15 (Scalar.addi v10 v9) v10) 0#32

theorem startsSequence_eq : ∀ n : Fin 64, startsSequence (BitVec.ofNat 32 n.val) = if (n.val + 1) % 8 = 0 then 1#1 else 0#1 := by decide +kernel

theorem coord_eq : ∀ t : Fin cfg0.N, (grid0.coords t 0).val = t.val := (by decide +kernel : ∀ t : Fin grid0.N, (grid0.coords t 0).val = t.val)

/-- The halo is zero where the next tile starts a sequence, and otherwise the rows loaded. -/
theorem halo_at (t : Fin cfg0.N) (x : FVec Ideal S32x512 .f32) (p : Fin 32) (j : Fin 512) :
    k0_pay440 (F := Ideal) (grid0.coords t) x (ix2 p j) = if (t.val + 1) % 8 = 0 then 0 else x (ix2 p j) := by
  have h := startsSequence_eq ⟨t.val, lt64 t⟩
  have e : k0_pay440 (F := Ideal) (grid0.coords t) x = shapeCast S32x512 (Scalar.select (startsSequence (BitVec.ofNat 32 (grid0.coords t 0).val))
      (broadcast S32x512 (Scalar.ofBits .f32 0x00000000#32 : Ideal .f32)) x) shapeCasts_S32x512_S32x512 := rfl
  rw [e, coord_eq, h]
  by_cases ht : (t.val + 1) % 8 = 0
  · rw [if_pos ht, if_pos ht]
    pointwise
  · rw [if_neg ht, if_neg ht]
    pointwise

theorem tile_at (x : FVec Ideal S512x512 .f32) (p : Fin 512) (j : Fin 512) : k0_pay441 (F := Ideal) x (ix2 p j) = x (ix2 p j) := by
  pointwise [k0_pay441]

/-- From tile `t`'s extended tile the point builds tile `t + 1`'s. -/
theorem ext_next (u : FVec Ideal S8x4096x512 .f32) (t : Fin cfg0.N) (ht : t.val < 63) (prev : FVec Ideal S544x512 .f32) (un : FVec Ideal S512x512 .f32)
    (hp : ∀ q (hq : q < 544) j, prev (ix2 ⟨q, hq⟩ j) = tileRows u t.val (lt64 t) q j)
    (hu : ∀ (i : Fin 512) (j : Fin 512), un (ix2 i j)
      = u (ix3 ⟨(512 * (t.val + 1) + i.val) / 4096, by omega⟩ ⟨(512 * (t.val + 1) + i.val) % 4096, by omega⟩ j)) (q : ℕ) (hq : q < 544) (j : Fin 512) :
    extTile (grid0.coords t) prev un (ix2 ⟨q, hq⟩ j) = tileRows u (t.val + 1) (by omega) q j := by
  rw [extTile_eq]
  by_cases h : q < 32
  · refine (dif_pos h).trans ((halo_at t _ ⟨q, h⟩ j).trans ?_)
    by_cases h8 : (t.val + 1) % 8 = 0
    · rw [if_pos h8, tileRows, padAt, dif_neg (by omega)]
    · rw [if_neg h8]
      refine Eq.trans (congrArg prev ?_) ((hp (512 + q) (by omega) j).trans ?_)
      · funext a
        match a with
        | ⟨0, _⟩ => exact Fin.ext (by simp [Rect.unit, ix2, Rect.emb])
        | ⟨1, _⟩ => exact Fin.ext (by simp [Rect.unit, ix2, Rect.emb])
      · have e1 : t.val / 8 = (t.val + 1) / 8 := by omega
        have e2 : t.val % 8 * 512 + (512 + q) - 2 = (t.val + 1) % 8 * 512 + q - 2 := by omega
        simp only [tileRows, e1, e2]
  · refine (dif_neg h).trans ((tile_at un ⟨q - 32, by omega⟩ j).trans ((hu _ j).trans ?_))
    rw [tileRows, padAt, dif_pos (by omega)]
    refine congrArg u ?_
    have e1 : (512 * (t.val + 1) + (q - 32)) / 4096 = (t.val + 1) / 8 := by omega
    have e2 : (512 * (t.val + 1) + (q - 32)) % 4096 = (t.val + 1) % 8 * 512 + q - 2 - 30 := by omega
    simp only [e1, e2]

/-- The first tile's extended tile. -/
theorem ext_start (u : FVec Ideal S8x4096x512 .f32) (u0 : FVec Ideal S512x512 .f32) (hu : ∀ (i : Fin 512) (j : Fin 512), u0 (ix2 i j) = u (ix3 0 ⟨i.val, by omega⟩ j))
    (q : ℕ) (hq : q < 544) (j : Fin 512) : startTile u0 (ix2 ⟨q, hq⟩ j) = tileRows u 0 (by omega) q j := by
  by_cases h : q < 32
  · refine (dif_pos h).trans ?_
    rw [tileRows, padAt, dif_neg (by omega)]
  · refine (dif_neg h).trans ((hu ⟨q - 32, by omega⟩ j).trans ?_)
    rw [tileRows, padAt, dif_pos (by omega)]
    refine congrArg u ?_
    have e2 : q - 32 = 0 % 8 * 512 + q - 2 - 30 := by omega
    simp only [e2]
    rfl

variable (m : (ℓ : Loc nD τ sig) → Buf (Elt Ideal) ℓ) (c : Dev nD)

/-- The convolution's input. -/
abbrev uOf : FVec Ideal S8x4096x512 .f32 := m ((c : Thread nD τ).loc main_arg1)

/-- The mixer's rows of tile `T`. -/
def mixed (T : ℕ) (hT : T < 64) (y : S512x512.Idx) : EReal :=
  mixTile (tileRows (uOf m c) T hT) (wAt (m ((c : Thread nD τ).loc main_arg3))) (fun l => (m ((c : Thread nD τ).loc main_arg4) : FVec Ideal S1x512 .f32) (ix2 0 l))
    (fun l => (m ((c : Thread nD τ).loc main_arg5) : FVec Ideal S1x512 .f32) (ix2 0 l)) (fun l => (m ((c : Thread nD τ).loc main_arg6) : FVec Ideal S1x512 .f32) (ix2 0 l)) y

/-- The loaded weights, by tap. -/
theorem weights (t : Fin cfg0.N) (n : ℕ) (hn : n < 31) (i : Fin 8) (j : Fin 512) :
    (iblk m c 4 t : FVec Ideal S248x512 .f32) (ix2 ⟨8 * n + i.val, by omega⟩ j) = wAt (m ((c : Thread nD τ).loc main_arg3)) n j := by
  rw [w_read m c t n hn i j, wAt, dif_pos hn]

/-- A mixer over an extended tile that holds tile `T`'s rows is the mixer of tile `T`. -/
theorem mixed_of (T : ℕ) (hT : T < 64) (t : Fin cfg0.N) (E : FVec Ideal S544x512 .f32) (hE : ∀ q (hq : q < 544) j, E (ix2 ⟨q, hq⟩ j) = tileRows (uOf m c) T hT q j)
    (y : S512x512.Idx) :
    mixTile (rows E) (wAt (m ((c : Thread nD τ).loc main_arg3))) (fun x => (iblk m c 5 t : FVec Ideal S1x512 .f32) (ix2 0 x))
      (fun x => (iblk m c 6 t : FVec Ideal S1x512 .f32) (ix2 0 x)) (fun x => (iblk m c 7 t : FVec Ideal S1x512 .f32) (ix2 0 x)) y = mixed m c T hT y := by
  simp only [b_read, g_read, be_read]
  refine mixAt_congr (fun k j hk => ?_) _
  have hy : (y 0).val < 512 := (y 0).isLt
  rw [rows, dif_pos (by omega)]
  exact hE _ _ j

/-- After point `n` the extended tile holds the next tile's rows. -/
theorem ext_holds : ∀ (n : ℕ) (hn : n < cfg0.N) (h63 : n < 63) (q : ℕ) (hq : q < 544) (j : Fin 512),
    ((outsAt0 m c n hn).2.2 : FVec Ideal S544x512 .f32) (ix2 ⟨q, hq⟩ j) = tileRows (uOf m c) (n + 1) (by omega) q j
  | 0, hn, h63, q, hq, j => by
    rw [ext_first m c ⟨0, hn⟩ rfl]
    exact ext_next _ ⟨0, hn⟩ h63 _ _ (ext_start _ _ (u0_read m c ⟨0, hn⟩)) (un_read m c ⟨0, hn⟩ h63) q hq j
  | n + 1, hn, h63, q, hq, j => by
    rw [ext_later m c ⟨n + 1, hn⟩ (by simp only; omega)]
    exact ext_next _ ⟨n + 1, hn⟩ h63 _ _ (ext_holds n (by omega) (by omega)) (un_read m c ⟨n + 1, hn⟩ h63) q hq j

/-- After point `n` the convolution's scratch holds the next tile's mixer. -/
theorem conv_holds (n : ℕ) (hn : n < cfg0.N) (h63 : n < 63) (y : S512x512.Idx) :
    ((outsAt0 m c n hn).2.1 : FVec Ideal S512x512 .bf16) y = mixed m c (n + 1) (by omega) y := by
  by_cases h0 : n = 0
  · subst h0
    refine (conv_first m c ⟨0, hn⟩ rfl _ (weights m c ⟨0, hn⟩) y).trans (mixed_of m c 1 (by omega) ⟨0, hn⟩ _ ?_ y)
    rw [← ext_first m c ⟨0, hn⟩ rfl]
    exact ext_holds m c 0 hn h63
  · refine (conv_later m c ⟨n, hn⟩ (by simp only; omega) _ (weights m c ⟨n, hn⟩) y).trans (mixed_of m c (n + 1) (by omega) ⟨n, hn⟩ _ ?_ y)
    rw [← ext_later m c ⟨n, hn⟩ (by simp only; omega)]
    exact ext_holds m c n hn h63

/-- The output block of point `t` closes over tile `t`'s mixer. -/
theorem out_holds (t : Fin cfg0.N) (i : Fin 512) (j : Fin 1024) :
    ((outsAt0 m c t.val t.isLt).1 : FVec Ideal S512x1024 .f32) (ix2 i j) = closed m c t (mixed m c t.val (lt64 t)) i j := by
  have hlt := lt64 t
  by_cases h0 : t.val % 64 = 0
  · refine (out_first m c t h0 _ (weights m c t) i j).trans (congrArg (fun f => closed m c t f i j) (funext fun y => ?_))
    obtain ⟨n, hn⟩ := t
    obtain rfl : n = 0 := by simp only at h0 hlt; omega
    exact mixed_of m c 0 (by omega) ⟨0, hn⟩ _ (ext_start _ _ (u0_read m c ⟨0, hn⟩)) y
  · refine (out_later m c t h0 i j).trans (congrArg (fun f => closed m c t f i j) (funext fun y => ?_))
    refine (conv_holds m c (t.val - 1) (by omega) (by omega) y).trans ?_
    have e : t.val - 1 + 1 = t.val := by omega
    simp only [e]

end Cert.KernelIdeal.Tile

end
-- ==== Proof.Result.lean ====
module

public import proofs.«01_k».proof.Proof.Tiles

/-!
The output array. Block `t` of it is tile `t`'s rows of the layer, the blocks tile the array, and so the kernel's result is the reference's at every index.
-/

@[expose] public section

set_option maxRecDepth 16384

noncomputable section

open Idealize.ShloMosaic Idealize.ShloMosaic.TcCoe Idealize.SL.Sem

namespace Cert.KernelIdeal.Tile

open Cert.KernelIdeal Cert.KernelIdeal.Gen Cert.KernelIdeal.Conv Cert.KernelIdeal.Blocks Cert.ReferenceIdeal.Wanted

variable (m : (ℓ : Loc nD τ sig) → Buf (Elt Ideal) ℓ) (c : Dev nD)

/-- The reference's result, of the kernel's own arguments. -/
def wanted : FVec Ideal S32768x1024 .f32 :=
  Cert.ReferenceIdeal.Read.val_main_v327 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11))

/-- Row `i` of tile `t`'s mixer is the mixer of the layer's row `512 t + i`. -/
theorem mixed_row (T : ℕ) (hT : T < 64) (i : Fin 512) (k : Fin 512) :
    mixed m c T hT (ix2 i k)
      = mixAt (histAt (uOf m c) ⟨(512 * T + i.val) / 4096, by omega⟩ ((512 * T + i.val) % 4096)) (wAt (m ((c : Thread nD τ).loc main_arg3)))
          (fun l => (m ((c : Thread nD τ).loc main_arg4) : FVec Ideal S1x512 .f32) (ix2 0 l)) (fun l => (m ((c : Thread nD τ).loc main_arg5) : FVec Ideal S1x512 .f32) (ix2 0 l))
          (fun l => (m ((c : Thread nD τ).loc main_arg6) : FVec Ideal S1x512 .f32) (ix2 0 l)) 0 k := by
  refine mixAt_congr (fun n j hn => ?_) k
  have e1 : T / 8 = (512 * T + i.val) / 4096 := by omega
  have e2 : T % 8 * 512 + (i.val + 2 + n) - 2 = (512 * T + i.val) % 4096 + (0 + 2 + n) - 2 := by omega
  simp only [tileRows, histAt]
  refine Eq.trans (b := padAt (uOf m c) ⟨T / 8, by omega⟩ (T % 8 * 512 + (i.val + 2 + n) - 2) j) rfl ?_
  simp only [e1, e2]

/-- The output block of point `t` at row `i` is the reference's row `512 t + i`. -/
theorem out_wanted (t : Fin cfg0.N) (i : Fin 512) (j : Fin 1024) :
    ((outsAt0 m c t.val t.isLt).1 : FVec Ideal S512x1024 .f32) (ix2 i j)
      = wanted m c (ix2 ⟨512 * t.val + i.val, by have := lt64 t; omega⟩ j) := by
  rw [out_holds, closed, wanted, result_read]
  simp only [mixed_row, x_read, a_read, wc_read, wa_read, g2_read, w1_read, w2_read, gf_read]

/-- The array after the run is the reference's result. -/
theorem final : (dats m 0 c).arrAt 14 cfg0.N = wanted m c := by
  refine (dats m 0 c).arrAt_eq_of_covers 14 _ (by decide +kernel) fun t hf y => ?_
  blk_simp
  rw [after0_14]
  have e : (y : S512x1024.Idx) = ix2 (y 0) (y 1) := by funext a; match a with | ⟨0, _⟩ => rfl | ⟨1, _⟩ => rfl
  refine (congrArg (outsAt0 m c t.val t.isLt).1 e).trans ((out_wanted m c t (y 0) (y 1)).trans (congrArg (wanted m c) ?_))
  blk_ext [idx t]

end Cert.KernelIdeal.Tile

end
-- ==== Proof.Safe.lean ====
/- Runs of the attention call that keep no contents: `Safe P p Q` says that from every memref of the call at some contents, the tile list at contents of
   which `P` holds, `p` runs to its return and hands all of them back, the tile list then at contents of which `Q` holds. One rule for each kind of step. -/
module

public import proofs.«01_k».proof.Proof.Gen.Kernel2Ideal.Frame

@[expose] public section

noncomputable section

namespace Cert.Kernel2Ideal.Tile

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a core owns. -/
abbrev Res (F : FTy → Type) [FloatOps F] := sProp (MT nD τ sig Unit (Elt F) ℕ (UR sig nD τ) ℕ)

/-- A memref owned whole at some contents. -/
def held (c : Dev nD) {sp : Space} {s : Shape} {e : EltTy} (m : Memref sig .tc sp s e) : sProp 𝕄 :=
  iprop(∃ d, owns (c : Thread nD τ) m fullShare d)

/-- The memref can be taken out of `R` at some contents and put back at any. -/
def Acc (c : Dev nD) (R : Res F) {sp : Space} {s : Shape} {e : EltTy} (m : Memref sig .tc sp s e) : Prop :=
  R ⊢ iprop(held (F := F) c m ∗ (held c m -∗ R))

section Acc
variable {c : Dev nD} {R X : Res F} {sp : Space} {s : Shape} {e : EltTy} {m : Memref sig .tc sp s e}

theorem Acc.last : Acc (F := F) c (held c m) m := by
  unfold Acc
  iintro H
  isplitl [H]; · iexact H
  iintro H; iexact H

theorem Acc.head : Acc (F := F) c iprop(held c m ∗ R) m := by
  unfold Acc
  iintro ⟨H, HR⟩
  isplitl [H]; · iexact H
  iintro H
  isplitl [H]; · iexact H
  iexact HR

theorem Acc.tail (h : Acc (F := F) c R m) : Acc (F := F) c iprop(X ∗ R) m := by
  unfold Acc at *
  iintro ⟨HX, HR⟩
  ihave HR := h $$ HR
  icases HR with ⟨H, Hb⟩
  isplitl [H]; · iexact H
  iintro H
  isplitl [HX]; · iexact HX
  iapply Hb; iexact H

end Acc

/-- What the tile list is read as. -/
abbrev Tiles (F : FTy → Type) := S9.Idx → Elt F .i32

/-- The run of `p` from `P` to `Q`. -/
def Safe (c : Dev nD) (R : Res F) (T : Memref sig .tc .smem S9 .i32) {α : Type} (P : Tiles F → Prop)
    (p : Prog (TpuEff nD τ sig (Elt F) Λ₀ .tc) α) (Q : α → Tiles F → Prop) : Prop :=
  iprop(R ∗ ∃ d, ⌜P d⌝ ∗ owns (c : Thread nD τ) T fullShare d)
    ⊢ wp frame (wpE (defs₀ (F := F)) Variants.none c none) Set.univ p
        (fun a => iprop(R ∗ ∃ d, ⌜Q a d⌝ ∗ owns (c : Thread nD τ) T fullShare d))

section Steps
variable {c : Dev nD} {sp : CoreSpace} {s : Shape} {e : EltTy} {α : Type}

/-- A load, the memref owned whole: its words stay. -/
theorem step_load (m : Memref sig .tc sp s e) (r : Rect s) (hl : m.view.LoadsAt r.toLoadRect)
    (k : (r.shape.Idx → Elt F e) → Prog (TpuEff nD τ sig (Elt F) Λ₀ .tc) α) (Q : α → Res F) (f : Buf (Elt F) (m.view.loc (c : Thread nD τ))) :
    ((m.view.loc (c : Thread nD τ) ↦[m.view.set]{fullShare} f) : Res F)
      ⊢ iprop(((m.view.loc (c : Thread nD τ) ↦[m.view.set]{fullShare} f)
            -∗ wp frame (wpE (defs₀ (F := F)) Variants.none c none) Set.univ (k ((m.access r).read (Elt F) f)) Q)
          -∗ wp frame (wpE (defs₀ (F := F)) Variants.none c none) Set.univ (.op (.load m r.toLoadRect hl) k) Q) :=
  wp_load_rect (c := (c : Thread nD τ)) (defs := defs₀ (F := F)) (m := m) (r := r) (hl := hl) (k := k) (f := f) (Q := Q) Variants.none none Set.univ
    (View.set_slice_subset m.view r)

/-- A store, the memref owned whole: it is overwritten there. -/
theorem step_store (m : Memref sig .tc sp s e) (r : Rect s) (w : r.shape.Idx → Elt F e) (Mk : Finset r.shape.Idx) (hx : (m.access r).Stores Mk)
    (hs : Mk = Finset.univ ∨ ∀ a, r.stride a = 1) (k : PUnit → Prog (TpuEff nD τ sig (Elt F) Λ₀ .tc) α) (Q : α → Res F)
    (f : Buf (Elt F) (m.view.loc (c : Thread nD τ))) :
    ((m.view.loc (c : Thread nD τ) ↦[m.view.set]{fullShare} f) : Res F)
      ⊢ iprop(((m.view.loc (c : Thread nD τ) ↦[m.view.set]{fullShare} ((m.access r).write (Elt F) f w Mk))
            -∗ wp frame (wpE (defs₀ (F := F)) Variants.none c none) Set.univ (k ⟨⟩) Q)
          -∗ wp frame (wpE (defs₀ (F := F)) Variants.none c none) Set.univ (.op (.store m r w Mk hx hs) k) Q) :=
  wp_store (c := (c : Thread nD τ)) (defs := defs₀ (F := F)) (m := m) (r := r) (hx := hx) (hm := hs) (k := k) (f := f) (Q := Q) Variants.none none Set.univ
    ((View.setOn_subset_set _ _).trans (View.set_slice_subset m.view r))

end Steps

section Rules
variable {c : Dev nD} {R : Res F} {T : Memref sig .tc .smem S9 .i32} {α β : Type} {P : Tiles F → Prop} {Q : α → Tiles F → Prop}

theorem Safe.ret {a : α} (h : ∀ d, P d → Q a d) : Safe c R T P (pure a) Q := by
  unfold Safe
  show _ ⊢ wp frame _ _ (.ret a) _
  rw [wp_ret]
  iintro ⟨HR, %d, %hd, HT⟩
  imodintro
  isplitl [HR]; · iexact HR
  iexists d
  isplitr; · ipureintro; exact h d hd
  iexact HT

theorem Safe.bind {p : Prog (TpuEff nD τ sig (Elt F) Λ₀ .tc) β} {k : β → Prog (TpuEff nD τ sig (Elt F) Λ₀ .tc) α} (Q₁ : β → Tiles F → Prop)
    (hp : Safe c R T P p Q₁) (hk : ∀ b, Safe c R T (Q₁ b) (k b) Q) : Safe c R T P (p >>= k) Q := by
  unfold Safe at *
  rw [wp_bind]
  refine hp.trans ?_
  exact wp_mono _ _ _ fun b => hk b

/-- The same run, its program in the form of a step and what follows. -/
theorem Safe.unf {p : Prog (TpuEff nD τ sig (Elt F) Λ₀ .tc) β} {k : β → Prog (TpuEff nD τ sig (Elt F) Λ₀ .tc) α}
    (h : Safe c R T P (p >>= k) Q) : Safe c R T P (p >>= k) Q := h

theorem Safe.weaken {P' : Tiles F → Prop} {Q' : α → Tiles F → Prop} {p : Prog (TpuEff nD τ sig (Elt F) Λ₀ .tc) α} (h : Safe c R T P' p Q')
    (hP : ∀ d, P d → P' d) (hQ : ∀ a d, Q' a d → Q a d) : Safe c R T P p Q := by
  unfold Safe at *
  refine BIBase.Entails.trans (Q := iprop(R ∗ ∃ d, ⌜P' d⌝ ∗ owns (c : Thread nD τ) T fullShare d)) ?_ (h.trans (wp_mono _ _ _ fun a => ?_))
  · iintro ⟨HR, %d, %hd, HT⟩
    isplitl [HR]; · iexact HR
    iexists d
    isplitr; · ipureintro; exact hP d hd
    iexact HT
  · iintro ⟨HR, %d, %hd, HT⟩
    isplitl [HR]; · iexact HR
    iexists d
    isplitr; · ipureintro; exact hQ a d hd
    iexact HT

theorem Safe.load {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} (hm : Acc (F := F) c R m) (hk : ∀ v, Safe c R T P (k v) Q) :
    Safe c R T P (Prog.lift (.load m r.toLoadRect hl) >>= k) Q := by
  unfold Safe at *
  unfold Acc held owns at hm
  show _ ⊢ wp frame _ _ (.op (.load m r.toLoadRect hl) k) _
  iintro ⟨HR, HT⟩
  ihave HR := hm $$ HR
  icases HR with ⟨⟨%d, %f, %hf, H⟩, Hb⟩
  iapply (step_load m r hl k _ f) $$ H
  iintro H
  iapply (hk _)
  isplitl [H Hb]
  · iapply Hb
    iexists d, f
    isplitr; · ipureintro; exact hf
    iexact H
  iexact HT

theorem Safe.store {cs : CoreSpace} {s : Shape} {e : EltTy} {m : Memref sig .tc cs s e} {r : Rect s} {w : r.shape.Idx → Elt F e}
    {Mk : Finset r.shape.Idx} {hx : (m.access r).Stores Mk} {hs : Mk = Finset.univ ∨ ∀ a, r.stride a = 1}
    {k : PUnit → Prog (TpuEff nD τ sig (Elt F) Λ₀ .tc) α} (hm : Acc (F := F) c R m) (hk : Safe c R T P (k ⟨⟩) Q) :
    Safe c R T P (Prog.lift (.store m r w Mk hx hs) >>= k) Q := by
  unfold Safe at *
  unfold Acc held owns at hm
  show _ ⊢ wp frame _ _ (.op (.store m r w Mk hx hs) k) _
  iintro ⟨HR, HT⟩
  ihave HR := hm $$ HR
  icases HR with ⟨⟨%d, %f, %hf, H⟩, Hb⟩
  iapply (step_store m r w Mk hx hs k _ f) $$ H
  iintro H
  iapply hk
  isplitl [H Hb]
  · iapply Hb
    iexists _, _
    isplitr; swap; · iexact H
    ipureintro; rfl
  iexact HT

theorem Safe.assume {C : Prop} {dC : Decidable C} {k : PLift C → Prog (TpuEff nD τ sig (Elt F) Λ₀ .tc) α} (h : C) (hk : Safe c R T P (k ⟨h⟩) Q) :
    Safe c R T P (Prog.lift (.assume C dC) >>= k) Q := by
  unfold Safe at *
  show _ ⊢ wp frame _ _ (.op (.assume C dC) k) _
  exact hk.trans (wp_assume Variants.none (c : Thread nD τ) none Set.univ h)

/-- A word of the tile list, read: it is the entry the list holds there. -/
theorem Safe.tile {r : Rect S9} {h1 : r.shape.numel = 1} {hp : EltTy.packing .i32 = 1} {k : Elt F .i32 → Prog (TpuEff nD τ sig (Elt F) Λ₀ .tc) α}
    (C : Elt F .i32 → Prop) (hC : ∀ d, P d → C (d (r.emb (Shape.Idx.first (h1.symm ▸ Nat.one_pos))))) (hk : ∀ v, C v → Safe c R T P (k v) Q) :
    Safe c R T P (smemLoad T r h1 hp >>= k) Q := by
  unfold Safe at *
  show _ ⊢ wp frame _ _ (.op (.load T r.toLoadRect (View.loadsAt_rect (View.loads_smem_one hp h1)))
    fun v => k (v (Shape.Idx.first (h1.symm ▸ Nat.one_pos)))) _
  unfold owns
  iintro ⟨HR, %d, %hd, %f, %hf, H⟩
  iapply (step_load T r _ (fun v => k (v (Shape.Idx.first (h1.symm ▸ Nat.one_pos)))) _ f) $$ H
  iintro H
  iapply (hk _ (by have := hC d hd; rw [← hf] at this; exact this))
  isplitl [HR]; · iexact HR
  iexists d
  isplitr; · ipureintro; exact hd
  unfold owns
  iexists f
  isplitr; · ipureintro; exact hf
  iexact H

/-- A word of the tile list, written. -/
theorem Safe.setTile {r : Rect S9} {w : r.shape.Idx → Elt F .i32} {hx : (T.access r).Stores Finset.univ}
    {hs : (Finset.univ : Finset r.shape.Idx) = Finset.univ ∨ ∀ a, r.stride a = 1} {k : PUnit → Prog (TpuEff nD τ sig (Elt F) Λ₀ .tc) α} (P₁ : Tiles F → Prop)
    (hP : ∀ d d' : Tiles F, P d → (∀ x, d' (r.emb x) = w x) → (∀ y, (∀ x, r.emb x ≠ y) → d' y = d y) → P₁ d')
    (hk : Safe c R T P₁ (k ⟨⟩) Q) :
    Safe c R T P (Prog.lift (.store T r w Finset.univ hx hs) >>= k) Q := by
  unfold Safe at *
  show _ ⊢ wp frame _ _ (.op (.store T r w Finset.univ hx hs) k) _
  unfold owns at *
  iintro ⟨HR, %d, %hd, %f, %hf, H⟩
  have hd' : P₁ (T.view.read (Elt F) ((T.access r).write (Elt F) f w Finset.univ)) := by
    refine hP d _ hd (fun x => ?_) (fun y hy => ?_)
    · exact View.read_slice_write_emb (v := T.view) r f w (Finset.mem_univ x)
    · refine (View.read_slice_write_of_not_mem (v := T.view) r f w Finset.univ (y := y) ?_).trans (congrFun hf y)
      intro hm
      obtain ⟨x, -, hx⟩ := Finset.mem_map.1 hm
      exact hy x hx
  iapply (step_store T r w Finset.univ hx hs k _ f) $$ H
  iintro H
  iapply hk
  isplitl [HR]; · iexact HR
  iexists _
  isplitr; · ipureintro; exact hd'
  iexists _
  isplitr; swap; · iexact H
  ipureintro; rfl

theorem Safe.dite {C : Prop} [Decidable C] {a : C → Prog (TpuEff nD τ sig (Elt F) Λ₀ .tc) α} {b : ¬C → Prog (TpuEff nD τ sig (Elt F) Λ₀ .tc) α}
    (ha : ∀ h, Safe c R T P (a h) Q) (hb : ∀ h, Safe c R T P (b h) Q) : Safe c R T P (if h : C then a h else b h) Q := by
  by_cases h : C
  · rw [dif_pos h]; exact ha h
  · rw [dif_neg h]; exact hb h

theorem Safe.loop {w : Nat} {l : Scf.Loop w} {hok : l.OK} {σ : Type} {init : σ}
    {body : Fin l.trips → σ → Prog (TpuEff nD τ sig (Elt F) Λ₀ .tc) σ}
    (hb : ∀ k acc, Safe c R T P (body k acc) (fun _ => P)) : Safe c R T P (Scf.Loop.for l hok init body) (fun _ => P) := by
  unfold Safe at *
  have h := Scf.wp_for frame (wpE (defs₀ (F := F)) Variants.none c none) Set.univ l.lb l.ub l.st hok init body
    (fun _ _ => iprop(R ∗ ∃ d, ⌜P d⌝ ∗ owns (c : Thread nD τ) T fullShare d)) (fun k acc => hb k acc)
    (Q := fun _ => iprop(R ∗ ∃ d, ⌜P d⌝ ∗ owns (c : Thread nD τ) T fullShare d))
  refine BIBase.Entails.trans ?_ h
  iintro H
  isplitl [H]; · iexact H
  iintro %acc H
  iexact H

/-- A step that keeps what holds of the list, then what follows. -/
theorem Safe.seq {p : Prog (TpuEff nD τ sig (Elt F) Λ₀ .tc) β} {k : β → Prog (TpuEff nD τ sig (Elt F) Λ₀ .tc) α}
    (hp : Safe c R T P p (fun _ => P)) (hk : ∀ b, Safe c R T P (k b) Q) : Safe c R T P (p >>= k) Q := Safe.bind (fun _ => P) hp hk

/-- What holds of the list gives a fact of the values. -/
theorem Safe.pull {C : Prop} {P' : Tiles F → Prop} {p : Prog (TpuEff nD τ sig (Elt F) Λ₀ .tc) α} (h : C → Safe c R T P' p Q) :
    Safe c R T (fun d => P' d ∧ C) p Q := by
  by_cases hC : C
  · exact (h hC).weaken (fun _ hd => hd.1) fun _ _ hd => hd
  · unfold Safe
    iintro ⟨HR, %d, %hd, HT⟩
    exact (hC hd.2).elim

/-- The list's first `n` words are tile numbers. -/
def Below (n : Nat) (d : Tiles F) : Prop := ∀ j : S9.Idx, (j 0).val < n → (show BitVec 32 from d j).toNat < 8

theorem Below.mono {m n : Nat} (h : m ≤ n) {d : Tiles F} (hd : Below n d) : Below m d := fun j hj => hd j (hj.trans_le h)

theorem emb_word {o : Fin 1 → Nat} {inb : ∀ a, o a + S1.size a ≤ S9.size a} (x : (Rect.unit (s := S9) o S1.size inb).shape.Idx) :
    ((Rect.unit (s := S9) o S1.size inb).emb x 0).val = o 0 := by
  have h0 : (x 0).val = 0 := Nat.lt_one_iff.1 (x 0).isLt
  show o 0 + 1 * (x 0).val = o 0
  omega

theorem tile0_lt {n : Nat} : (![0] : Fin 1 → Nat) 0 < n + 1 := Nat.succ_pos n

/-- A word of the list read: a tile number, where the list holds one. -/
theorem Safe.tileLt {o : Fin 1 → Nat} {inb : ∀ a, o a + S1.size a ≤ S9.size a} {h1 : (Rect.unit (s := S9) o S1.size inb).shape.numel = 1}
    {hp : EltTy.packing .i32 = 1} {k : Elt F .i32 → Prog (TpuEff nD τ sig (Elt F) Λ₀ .tc) α} {n : Nat} (ho : o 0 < n)
    (hk : ∀ v : BitVec 32, v.toNat < 8 → Safe c R T (Below n) (k v) Q) :
    Safe c R T (Below n) (smemLoad T (Rect.unit (s := S9) o S1.size inb) h1 hp >>= k) Q := by
  refine Safe.tile (fun v => (show BitVec 32 from v).toNat < 8) (fun d hd => hd _ ?_) fun v hv => hk v hv
  rw [emb_word]
  exact ho

/-- The same, of any rectangle that is the word at `o`. -/
theorem Safe.tileBelow {r : Rect S9} {h1 : r.shape.numel = 1} {hp : EltTy.packing .i32 = EltTy.packing .i32}
    {k : BitVec 32 → Prog (TpuEff nD τ sig (Elt F) Λ₀ .tc) α} {n : Nat}
    (hr : ∃ (o : Fin 1 → Nat) (inb : ∀ a, o a + S1.size a ≤ S9.size a), r = Rect.unit (s := S9) o S1.size inb ∧ o 0 < n)
    (hk : ∀ v : BitVec 32, v.toNat < 8 → Safe c R T (Below n) (k v) Q) :
    Safe c R T (Below n) (Bind.bind (α := Elt F .i32) (smemLoad T r h1 hp) k) Q := by
  obtain ⟨o, inb, rfl, ho⟩ := hr
  exact Safe.tileLt ho hk

/-- A word of the list read and dropped. -/
theorem Safe.tileAny {r : Rect S9} {h1 : r.shape.numel = 1} {hp : EltTy.packing .i32 = 1} {k : Elt F .i32 → Prog (TpuEff nD τ sig (Elt F) Λ₀ .tc) α}
    (hk : ∀ v, Safe c R T P (k v) Q) : Safe c R T P (smemLoad T r h1 hp >>= k) Q :=
  Safe.tile (fun _ => True) (fun _ _ => trivial) fun v _ => hk v

/-- A tile number written next to those the list holds. -/
theorem Safe.setLt {o : Fin 1 → Nat} {inb : ∀ a, o a + S1.size a ≤ S9.size a} {w : (Rect.unit (s := S9) o S1.size inb).shape.Idx → Elt F .i32}
    {hx : (T.access (Rect.unit (s := S9) o S1.size inb)).Stores Finset.univ}
    {hs : (Finset.univ : Finset (Rect.unit (s := S9) o S1.size inb).shape.Idx) = Finset.univ ∨ ∀ a, (Rect.unit (s := S9) o S1.size inb).stride a = 1}
    {k : PUnit → Prog (TpuEff nD τ sig (Elt F) Λ₀ .tc) α} {m : Nat} (hw : ∀ x, (show BitVec 32 from w x).toNat < 8) (hm : o 0 ≤ m)
    (hk : Safe c R T (Below (o 0 + 1)) (k ⟨⟩) Q) :
    Safe c R T (Below m) (Prog.lift (.store T (Rect.unit (s := S9) o S1.size inb) w Finset.univ hx hs) >>= k) Q := by
  refine Safe.setTile (Below (o 0 + 1)) (fun d d' hd h1 h2 j hj => ?_) hk
  by_cases h : ∃ x, (Rect.unit (s := S9) o S1.size inb).emb x = j
  · obtain ⟨x, rfl⟩ := h
    rw [h1]
    exact hw x
  · have hj' : (j 0).val ≠ o 0 := fun e => h ⟨fun a => ⟨0, by fin_cases a; exact Nat.one_pos⟩, by
      funext a
      obtain rfl : a = 0 := Subsingleton.elim _ _
      refine Fin.ext ?_
      rw [emb_word]
      exact e.symm⟩
    rw [h2 j fun x e => h ⟨x, e⟩]
    exact hd j (by omega)

end Rules

end Cert.Kernel2Ideal.Tile

end
-- ==== Proof.Count.lean ====
/- The counts of the attention call's tile list: how many of the eight tiles before the block's own are wanted, that every count fits the list, and that a
   tile number below eight names a tile inside the arrays. -/
module

public import proofs.«01_k».proof.Proof.Safe

@[expose] public section

noncomputable section

namespace Cert.Kernel2Ideal.Tile

open Cert.Kernel2Ideal Cert.Kernel2Ideal.Gen
open Idealize.ShloMosaic

/-- The block's own tile. -/
def ownTile (v1 : BitVec 32) : BitVec 32 :=
  let c4_i32 : BitVec 32 := 4#32
  let c4_i32_1497 : BitVec 32 := 4#32
  let v4470 : BitVec 32 := Scalar.addi v1 c4_i32_1497
  let c1_i32_1498 : BitVec 32 := 1#32
  let v4471 : BitVec 32 := Scalar.subi v4470 c1_i32_1498
  let c0_i32_1500 : BitVec 32 := 0#32
  let v4473 : BitVec 1 := Scalar.cmpi .sgt v4471 c0_i32_1500
  let v4474 : BitVec 32 := Scalar.extui v4473
  let c0_i32_1501 : BitVec 32 := 0#32
  let v4475 : BitVec 1 := Scalar.cmpi .slt v4471 c0_i32_1501
  let v4476 : BitVec 32 := Scalar.extui v4475
  let v4477 : BitVec 32 := Scalar.subi v4474 v4476
  let c8_i32_1499 : BitVec 32 := 8#32
  let c0_i32_1502 : BitVec 32 := 0#32
  let v4478 : BitVec 1 := Scalar.cmpi .sgt c8_i32_1499 c0_i32_1502
  let v4479 : BitVec 32 := Scalar.extui v4478
  let c0_i32_1503 : BitVec 32 := 0#32
  let v4480 : BitVec 1 := Scalar.cmpi .slt c8_i32_1499 c0_i32_1503
  let v4481 : BitVec 32 := Scalar.extui v4480
  let v4482 : BitVec 32 := Scalar.subi v4479 v4481
  let v4483 : BitVec 1 := Scalar.cmpi .ne v4477 v4482
  let v4484 : BitVec 32 := Scalar.remsi v4471 c8_i32_1499
  let c0_i32_1504 : BitVec 32 := 0#32
  let v4485 : BitVec 1 := Scalar.cmpi .ne v4484 c0_i32_1504
  let v4486 : BitVec 1 := Scalar.andi v4483 v4485
  let v4472 : BitVec 32 := Scalar.divsi v4471 c8_i32_1499
  let c1_i32_1505 : BitVec 32 := 1#32
  let v4487 : BitVec 32 := Scalar.subi v4472 c1_i32_1505
  let v4488 : BitVec 32 := Scalar.select v4486 v4487 v4472
  v4488

theorem ownTile_lt : ∀ n : Fin 16, (ownTile (Scalar.muli (BitVec.ofNat 32 n.val) 4#32)).toNat < 8 := by decide +kernel

theorem own_lt (i : grid0.Coords) : (ownTile (Scalar.muli (BitVec.ofNat 32 (i 2).val) 4#32)).toNat < 8 := ownTile_lt (i 2)

theorem add_le (x : BitVec 32) (c : BitVec 1) : (Scalar.addi x (Scalar.select c 1#32 0#32)).toNat ≤ x.toNat + 1 := by
  have h : (Scalar.select c 1#32 0#32).toNat ≤ 1 := by
    unfold Scalar.select
    split <;> decide
  refine (show (x + Scalar.select c 1#32 0#32).toNat ≤ _ from ?_)
  rw [BitVec.toNat_add]
  exact (Nat.mod_le _ _).trans (Nat.add_le_add_left h _)

theorem off2_le (i : grid0.Coords) (a : BitVec 1) : k0_off2 i a 0 ≤ 1 := add_le 0#32 _

theorem off3_le (i : grid0.Coords) (a b : BitVec 1) : k0_off3 i a b 0 ≤ k0_off2 i a 0 + 1 := add_le _ _
theorem off4_le (i : grid0.Coords) (a b c : BitVec 1) : k0_off4 i a b c 0 ≤ k0_off3 i a b 0 + 1 := add_le _ _
theorem off5_le (i : grid0.Coords) (a b c d : BitVec 1) : k0_off5 i a b c d 0 ≤ k0_off4 i a b c 0 + 1 := add_le _ _
theorem off6_le (i : grid0.Coords) (a b c d e : BitVec 1) : k0_off6 i a b c d e 0 ≤ k0_off5 i a b c d 0 + 1 := add_le _ _
theorem off7_le (i : grid0.Coords) (a b c d e f : BitVec 1) : k0_off7 i a b c d e f 0 ≤ k0_off6 i a b c d e 0 + 1 := add_le _ _
theorem off8_le (i : grid0.Coords) (a b c d e f g : BitVec 1) : k0_off8 i a b c d e f g 0 ≤ k0_off7 i a b c d e f 0 + 1 := add_le _ _
theorem off9_le (i : grid0.Coords) (a b c d e f g h : BitVec 1) : k0_off9 i a b c d e f g h 0 ≤ k0_off8 i a b c d e f g 0 + 1 := add_le _ _

theorem off2_bound (i : grid0.Coords) (a : BitVec 1) : k0_off2 i a 0 ≤ 1 := off2_le i a
theorem off3_bound (i : grid0.Coords) (a b : BitVec 1) : k0_off3 i a b 0 ≤ 2 := (off3_le i a b).trans (Nat.succ_le_succ (off2_bound i a))
theorem off4_bound (i : grid0.Coords) (a b c : BitVec 1) : k0_off4 i a b c 0 ≤ 3 := (off4_le i a b c).trans (Nat.succ_le_succ (off3_bound i a b))
theorem off5_bound (i : grid0.Coords) (a b c d : BitVec 1) : k0_off5 i a b c d 0 ≤ 4 := (off5_le i a b c d).trans (Nat.succ_le_succ (off4_bound i a b c))
theorem off6_bound (i : grid0.Coords) (a b c d e : BitVec 1) : k0_off6 i a b c d e 0 ≤ 5 := (off6_le i a b c d e).trans (Nat.succ_le_succ (off5_bound i a b c d))
theorem off7_bound (i : grid0.Coords) (a b c d e f : BitVec 1) : k0_off7 i a b c d e f 0 ≤ 6 := (off7_le i a b c d e f).trans (Nat.succ_le_succ (off6_bound i a b c d e))
theorem off8_bound (i : grid0.Coords) (a b c d e f g : BitVec 1) : k0_off8 i a b c d e f g 0 ≤ 7 := (off8_le i a b c d e f g).trans (Nat.succ_le_succ (off7_bound i a b c d e f))
theorem off9_bound (i : grid0.Coords) (a b c d e f g h : BitVec 1) : k0_off9 i a b c d e f g h 0 ≤ 8 := (off9_le i a b c d e f g h).trans (Nat.succ_le_succ (off8_bound i a b c d e f g))

theorem inb_of {o : Fin 1 → Nat} (h : o 0 ≤ 8) : ∀ a, o a + S1.size a ≤ S9.size a := by
  intro a
  obtain rfl : a = 0 := Subsingleton.elim _ _
  exact Nat.succ_le_succ h

theorem chk1 (i : grid0.Coords) (a : BitVec 1) : k0_chk1 i a := inb_of ((off2_bound i a).trans (by decide))
theorem chk2 (i : grid0.Coords) (a b : BitVec 1) : k0_chk2 i a b := inb_of ((off3_bound i a b).trans (by decide))
theorem chk3 (i : grid0.Coords) (a b c : BitVec 1) : k0_chk3 i a b c := inb_of ((off4_bound i a b c).trans (by decide))
theorem chk4 (i : grid0.Coords) (a b c d : BitVec 1) : k0_chk4 i a b c d := inb_of ((off5_bound i a b c d).trans (by decide))
theorem chk5 (i : grid0.Coords) (a b c d e : BitVec 1) : k0_chk5 i a b c d e := inb_of ((off6_bound i a b c d e).trans (by decide))
theorem chk6 (i : grid0.Coords) (a b c d e f : BitVec 1) : k0_chk6 i a b c d e f := inb_of ((off7_bound i a b c d e f).trans (by decide))
theorem chk7 (i : grid0.Coords) (a b c d e f g : BitVec 1) : k0_chk7 i a b c d e f g := inb_of ((off8_bound i a b c d e f g).trans (by decide))

/-- The loops' bounds and the last tile's position, from the count. -/
theorem act (i : grid0.Coords) (a b c d e f g h : BitVec 1) : ∃ w : BitVec 32, k0_off9 i a b c d e f g h 0 = w.toNat ∧
    k0_t1_loop i a b c d e f g h = ⟨0#32, Scalar.addi 0#32 (Scalar.muli (Scalar.divsi (Scalar.subi w 0#32) 1#32) 1#32), 1#32⟩ ∧
    k0_t2_loop i a b c d e f g h = ⟨Scalar.addi 0#32 (Scalar.muli (Scalar.divsi (Scalar.subi w 0#32) 1#32) 1#32), Scalar.addi 0#32 (Scalar.subi w 0#32), 1#32⟩ ∧
    k0_off28 i a b c d e f g h 0 = (Scalar.maxsi (Scalar.subi w 1#32) 0#32).toNat ∧ k0_off31 i a b c d e f g h 0 = (Scalar.maxsi (Scalar.subi w 1#32) 0#32).toNat ∧
    k0_off34 i a b c d e f g h 0 = (Scalar.maxsi (Scalar.subi w 1#32) 0#32).toNat ∧ k0_off37 i a b c d e f g h 0 = (Scalar.maxsi (Scalar.subi w 1#32) 0#32).toNat :=
  ⟨_, rfl, rfl, rfl, rfl, rfl, rfl, rfl⟩

theorem bounds : ∀ n : Fin 9, let w := BitVec.ofNat 32 n.val
    let l1 : Scf.Loop 32 := ⟨0#32, Scalar.addi 0#32 (Scalar.muli (Scalar.divsi (Scalar.subi w 0#32) 1#32) 1#32), 1#32⟩
    let l2 : Scf.Loop 32 := ⟨Scalar.addi 0#32 (Scalar.muli (Scalar.divsi (Scalar.subi w 0#32) 1#32) 1#32), Scalar.addi 0#32 (Scalar.subi w 0#32), 1#32⟩
    l1.OK ∧ l1.trips = n.val ∧ l2.OK ∧ l2.trips = 0 ∧ (Scalar.maxsi (Scalar.subi w 1#32) 0#32).toNat ≤ n.val := by decide +kernel

theorem steps : ∀ k : Fin 8, (Scalar.addi (Scf.iv 0#32 1#32 k.val) 1#32).toNat = k.val + 1 ∧
    (Scalar.maxsi (Scalar.subi (Scf.iv 0#32 1#32 k.val) 1#32) 0#32).toNat ≤ k.val := by decide +kernel

section
variable (i : grid0.Coords) (a b c d e f g h : BitVec 1)

theorem facts : (k0_t1_loop i a b c d e f g h).OK ∧ (k0_t1_loop i a b c d e f g h).trips = k0_off9 i a b c d e f g h 0 ∧ (k0_t2_loop i a b c d e f g h).OK ∧ (k0_t2_loop i a b c d e f g h).trips = 0 ∧
    k0_off28 i a b c d e f g h 0 ≤ k0_off9 i a b c d e f g h 0 ∧ k0_off31 i a b c d e f g h 0 ≤ k0_off9 i a b c d e f g h 0 ∧ k0_off34 i a b c d e f g h 0 ≤ k0_off9 i a b c d e f g h 0 ∧ k0_off37 i a b c d e f g h 0 ≤ k0_off9 i a b c d e f g h 0 := by
  have hb := off9_bound i a b c d e f g h
  obtain ⟨w, h9, h1, h2, h28, h31, h34, h37⟩ := act i a b c d e f g h
  rw [h28, h31, h34, h37, h1, h2]
  rw [h9] at hb ⊢
  have hw := bounds ⟨w.toNat, Nat.lt_succ_of_le hb⟩
  simp only [BitVec.ofNat_toNat, BitVec.setWidth_eq] at hw
  obtain ⟨ha, hc, hd, he, hf⟩ := hw
  exact ⟨ha, hc, hd, he, hf, hf, hf, hf⟩

theorem no_t2 (t : Fin (k0_t2_loop i a b c d e f g h).trips) : False := by
  exact Nat.not_lt_zero _ (t.isLt.trans_eq (facts i a b c d e f g h).2.2.2.1)

theorem t1_lt (t : Fin (k0_t1_loop i a b c d e f g h).trips) : t.val < k0_off9 i a b c d e f g h 0 := (facts i a b c d e f g h).2.1 ▸ t.isLt

theorem t1_lt8 (t : Fin (k0_t1_loop i a b c d e f g h).trips) : t.val < 8 := (t1_lt i a b c d e f g h t).trans_le (off9_bound i a b c d e f g h)

theorem off12_lt (t : Fin (k0_t1_loop i a b c d e f g h).trips) : k0_off12 i a b c d e f g h t 0 < k0_off9 i a b c d e f g h 0 + 1 :=
  Nat.succ_lt_succ_iff.2 (t1_lt i a b c d e f g h t) |>.trans_le' (steps ⟨t.val, t1_lt8 i a b c d e f g h t⟩).1.le

theorem off14_lt (t : Fin (k0_t1_loop i a b c d e f g h).trips) : k0_off14 i a b c d e f g h t 0 < k0_off9 i a b c d e f g h 0 + 1 :=
  Nat.lt_succ_of_lt ((steps ⟨t.val, t1_lt8 i a b c d e f g h t⟩).2.trans_lt (t1_lt i a b c d e f g h t))

theorem off16_lt (t : Fin (k0_t1_loop i a b c d e f g h).trips) : k0_off16 i a b c d e f g h t 0 < k0_off9 i a b c d e f g h 0 + 1 := off12_lt i a b c d e f g h t

theorem off18_lt (t : Fin (k0_t1_loop i a b c d e f g h).trips) : k0_off18 i a b c d e f g h t 0 < k0_off9 i a b c d e f g h 0 + 1 := off14_lt i a b c d e f g h t

theorem off28_lt : k0_off28 i a b c d e f g h 0 < k0_off9 i a b c d e f g h 0 + 1 := Nat.lt_succ_of_le (facts i a b c d e f g h).2.2.2.2.1
theorem off31_lt : k0_off31 i a b c d e f g h 0 < k0_off9 i a b c d e f g h 0 + 1 := Nat.lt_succ_of_le (facts i a b c d e f g h).2.2.2.2.2.1
theorem off34_lt : k0_off34 i a b c d e f g h 0 < k0_off9 i a b c d e f g h 0 + 1 := Nat.lt_succ_of_le (facts i a b c d e f g h).2.2.2.2.2.2.1
theorem off37_lt : k0_off37 i a b c d e f g h 0 < k0_off9 i a b c d e f g h 0 + 1 := Nat.lt_succ_of_le (facts i a b c d e f g h).2.2.2.2.2.2.2

theorem le8 {x : Nat} (hx : x < k0_off9 i a b c d e f g h 0 + 1) : x ≤ 8 := (Nat.le_of_lt_succ hx).trans (off9_bound i a b c d e f g h)

theorem chk8 : k0_chk8 i a b c d e f g h :=
  ⟨inb_of (off9_bound i a b c d e f g h), (facts i a b c d e f g h).1, fun t _ => inb_of (le8 i a b c d e f g h (off12_lt i a b c d e f g h t)), fun t _ => inb_of (le8 i a b c d e f g h (off14_lt i a b c d e f g h t)),
    fun t _ => inb_of (le8 i a b c d e f g h (off16_lt i a b c d e f g h t)), fun t _ => inb_of (le8 i a b c d e f g h (off18_lt i a b c d e f g h t)), (facts i a b c d e f g h).2.2.1,
    fun t => (no_t2 i a b c d e f g h t).elim, fun t => (no_t2 i a b c d e f g h t).elim, fun t => (no_t2 i a b c d e f g h t).elim, fun t => (no_t2 i a b c d e f g h t).elim,
    fun _ _ => inb_of (le8 i a b c d e f g h (off28_lt i a b c d e f g h)), fun _ _ => inb_of (le8 i a b c d e f g h (off31_lt i a b c d e f g h)),
    fun _ _ => inb_of (le8 i a b c d e f g h (off34_lt i a b c d e f g h)), fun _ _ => inb_of (le8 i a b c d e f g h (off37_lt i a b c d e f g h))⟩

end

/-- A tile number below eight names 512 rows of 4096. -/
theorem rows : ∀ n : Fin 8, 512 ∣ (Scalar.muli (BitVec.ofNat 32 n.val) 512#32).toNat ∧ (Scalar.muli (BitVec.ofNat 32 n.val) 512#32).toNat ≤ 3584 := by decide +kernel

theorem rows_of {v : BitVec 32} (h : v.toNat < 8) : 512 ∣ (Scalar.muli v 512#32).toNat ∧ (Scalar.muli v 512#32).toNat ≤ 3584 := by
  have h' := rows ⟨v.toNat, h⟩
  simp only [BitVec.ofNat_toNat, BitVec.setWidth_eq] at h'
  exact h'

theorem keys_of {x : Nat} (h : x ≤ 3584) : ∀ a, (![0, x, 0] : Fin 3 → Nat) a + S1x512x128.size a ≤ S1x4096x128.size a := by
  intro a
  fin_cases a
  · exact (by decide : 0 + 1 ≤ 1)
  · exact (by omega : x + 512 ≤ 4096)
  · exact (by decide : 0 + 128 ≤ 128)

theorem vals_of {x : Nat} (h : x ≤ 3584) : ∀ a, (![0, x, 0] : Fin 3 → Nat) a + S1x512x256.size a ≤ S1x4096x256.size a := by
  intro a
  fin_cases a
  · exact (by decide : 0 + 1 ≤ 1)
  · exact (by omega : x + 512 ≤ 4096)
  · exact (by decide : 0 + 256 ≤ 256)

theorem chk9 {v : BitVec 32} (h : v.toNat < 8) : k0_chk9 v := ⟨(rows_of h).1, keys_of (rows_of h).2⟩

section
variable {i : grid0.Coords} {a b c d e f g h : BitVec 1} {v : BitVec 32}

theorem chk10 {t} (hv : v.toNat < 8) : k0_chk10 i a b c d e f g h t v := ⟨fun _ => (rows_of hv).1, fun _ => keys_of (rows_of hv).2⟩
theorem chk11 {t} (hv : v.toNat < 8) : k0_chk11 i a b c d e f g h t v := ⟨fun _ => (rows_of hv).1, fun _ => vals_of (rows_of hv).2⟩
theorem chk12 {t} (hv : v.toNat < 8) : k0_chk12 i a b c d e f g h t v := ⟨fun _ => (rows_of hv).1, fun _ => keys_of (rows_of hv).2⟩
theorem chk13 {t} (hv : v.toNat < 8) : k0_chk13 i a b c d e f g h t v := ⟨fun _ => (rows_of hv).1, fun _ => vals_of (rows_of hv).2⟩
theorem chk18 (hv : v.toNat < 8) : k0_chk18 i a b c d e f g h v := ⟨fun _ _ => (rows_of hv).1, fun _ _ => vals_of (rows_of hv).2⟩
theorem chk19 (hv : v.toNat < 8) : k0_chk19 i a b c d e f g h v := ⟨fun _ _ => (rows_of hv).1, fun _ _ => vals_of (rows_of hv).2⟩
theorem chk20 (hv : v.toNat < 8) : k0_chk20 i a b c d e f g h v := ⟨fun _ _ => (rows_of hv).1, fun _ _ => vals_of (rows_of hv).2⟩
theorem chk21 (hv : v.toNat < 8) : k0_chk21 i a b c d e f g h v := ⟨fun _ _ => (rows_of hv).1, fun _ _ => vals_of (rows_of hv).2⟩

end

end Cert.Kernel2Ideal.Tile

end
-- ==== Proof.Front.lean ====
/- The attention call's first half: projections, pooled scores and the selection's first ranks. It keeps the tile list and returns the block's first tile. -/
module

public import proofs.«01_k».proof.Proof.Count

@[expose] public section

noncomputable section

namespace Cert.Kernel2Ideal.Tile

open Cert.Kernel2Ideal Cert.Kernel2Ideal.Gen
open Idealize.ShloMosaic Idealize.ShloMosaic.TcCoe

variable {F : FTy → Type} [FloatOps F]

set_option maxHeartbeats 40000000 in
theorem front {c : Dev nD} {R : Res F} {P : Tiles F → Prop} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (a3 : Acc (F := F) c R arg3) (a4 : Acc (F := F) c R arg4) (a5 : Acc (F := F) c R arg5) (a6 : Acc (F := F) c R arg6) (a7 : Acc (F := F) c R arg7) (a8 : Acc (F := F) c R arg8) (a9 : Acc (F := F) c R arg9) (a10 : Acc (F := F) c R arg10) (a11 : Acc (F := F) c R arg11) (a12 : Acc (F := F) c R arg12) (a13 : Acc (F := F) c R arg13) (a14 : Acc (F := F) c R arg14) (a15 : Acc (F := F) c R arg15) (a16 : Acc (F := F) c R arg16) (a17 : Acc (F := F) c R arg17) (a18 : Acc (F := F) c R arg18) (a19 : Acc (F := F) c R arg19) (a20 : Acc (F := F) c R arg20) (a21 : Acc (F := F) c R arg21) (a22 : Acc (F := F) c R arg22) (a23 : Acc (F := F) c R arg23) (a24 : Acc (F := F) c R arg24) :
    Safe c R arg25 P (k0_part234 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun r d => P d ∧ r.2.1 = Scalar.muli (BitVec.ofNat 32 (i 2).val) 4#32) := by
  refine Safe.bind (fun r d => P d ∧ r.2.1 = Scalar.muli (BitVec.ofNat 32 (i 2).val) 4#32) ?_ fun r => Safe.pull fun hr => ?_
  · refine Safe.unf ?_
    refine Safe.load (by assumption) fun _ => ?_
    exact Safe.ret fun _ h => ⟨h, rfl⟩
  repeat (first
    | with_reducible refine Safe.load (by assumption) fun _ => ?_
    | with_reducible refine Safe.store (by assumption) ?_
    | with_reducible exact Safe.ret fun _ h => h
    | with_reducible exact Safe.ret fun _ h => ⟨h, hr⟩
    | with_reducible refine Safe.seq ?_ fun b => ?_
    | exact Safe.ret fun _ h => h
    | refine Safe.unf ?_)

end Cert.Kernel2Ideal.Tile

end
-- ==== Proof.List.lean ====
/- The attention call's tile list: its eight conditional writes and the block's own tile, every word written a tile number. -/
module

public import proofs.«01_k».proof.Proof.Count

@[expose] public section

noncomputable section

namespace Cert.Kernel2Ideal.Tile

open Cert.Kernel2Ideal Cert.Kernel2Ideal.Gen
open Idealize.ShloMosaic Idealize.ShloMosaic.TcCoe

variable {F : FTy → Type} [FloatOps F]

set_option maxHeartbeats 4000000 in
theorem part218 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (v1 : BitVec 32) (v499 : IVec S64x256 32) (v504 : IVec S64x256 32) (v4356 : IVec S8x256 32) (v4362 : IVec S8x256 32) (v4368 : IVec S8x256 32) (v4374 : IVec S8x256 32) (v4392 : IVec S8x256 32) (v4417 : IVec S8x256 32) (v4423 : IVec S8x256 32) (v4429 : IVec S8x256 32) (v4435 : IVec S8x256 32) (v4453 : IVec S8x256 32) (v4454 : IVec S8x256 32) (v4455 : IVec S8x256 32) (v4456 : IVec S8x256 32) (hv1 : v1 = Scalar.muli (BitVec.ofNat 32 (i 2).val) 4#32) :
    Safe c R arg25 (Below 0) (k0_part218 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v499 v504 v4356 v4362 v4368 v4374 v4392 v4417 v4423 v4429 v4435 v4453 v4454 v4455 v4456) (fun b d => Below (k0_off2 i b.2.2.1 0) d ∧ b.2.1.toNat < 8) := by
  refine Safe.unf ?_
  refine Safe.assume (chk1 _ _) ?_
  refine Safe.tileAny fun _ => ?_
  refine Safe.setLt (fun _ => by decide) (le_refl 0) ?_
  exact Safe.ret fun _ h => ⟨h.mono (off2_le _ _), by subst hv1; exact own_lt i⟩

set_option maxHeartbeats 4000000 in
theorem part219 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (v4469 : FVec F S64x256 .f32) (v4488 : BitVec 32) (v4494 : BitVec 1) (k0_hw1 : k0_chk1 i v4494) (v4497 : BitVec 1) :
    Safe c R arg25 (Below (k0_off2 i v4494 0)) (k0_part219 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v4469 v4488 v4494 k0_hw1 v4497) (fun b d => Below (k0_off5 i v4494 b.1 b.2.1 b.2.2.2.1 0) d) := by
  refine Safe.unf ?_
  refine Safe.assume (chk2 _ _ _ ) ?_
  refine Safe.tileAny fun _ => ?_
  refine Safe.setLt (fun _ => by decide) (le_refl _) ?_
  refine Safe.assume (chk3 _ _ _ _ ) ?_
  refine Safe.tileAny fun _ => ?_
  refine Safe.setLt (fun _ => by decide) (off3_le _ _ _) ?_
  refine Safe.assume (chk4 _ _ _ _ _ ) ?_
  refine Safe.tileAny fun _ => ?_
  refine Safe.setLt (fun _ => by decide) (off4_le _ _ _ _) ?_
  exact Safe.ret fun _ h => h.mono (off5_le _ _ _ _ _)

set_option maxHeartbeats 4000000 in
theorem part220 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (v4469 : FVec F S64x256 .f32) (v4488 : BitVec 32) (v4494 : BitVec 1) (v4505 : BitVec 1) (v4517 : BitVec 1) (v4523 : BitVec 32) (v4529 : BitVec 1) (k0_hw4 : k0_chk4 i v4494 v4505 v4517 v4529) (v4532 : BitVec 1) :
    Safe c R arg25 (Below (k0_off5 i v4494 v4505 v4517 v4529 0)) (k0_part220 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v4469 v4488 v4494 v4505 v4517 v4523 v4529 k0_hw4 v4532) (fun b d => Below (k0_off8 i v4494 v4505 v4517 v4529 b.1 b.2.1 b.2.2.2.1 0) d) := by
  refine Safe.unf ?_
  refine Safe.assume (chk5 _ _ _ _ _ _ ) ?_
  refine Safe.tileAny fun _ => ?_
  refine Safe.setLt (fun _ => by decide) (le_refl _) ?_
  refine Safe.assume (chk6 _ _ _ _ _ _ _ ) ?_
  refine Safe.tileAny fun _ => ?_
  refine Safe.setLt (fun _ => by decide) (off6_le _ _ _ _ _ _) ?_
  refine Safe.assume (chk7 _ _ _ _ _ _ _ _ ) ?_
  refine Safe.tileAny fun _ => ?_
  refine Safe.setLt (fun _ => by decide) (off7_le _ _ _ _ _ _ _) ?_
  exact Safe.ret fun _ h => h.mono (off8_le _ _ _ _ _ _ _ _)

set_option maxHeartbeats 4000000 in
theorem part221 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (v1 : BitVec 32) (v9 : F .f32) (v13 : IVec S256x128 32) (v4469 : FVec F S64x256 .f32) (v4488 : BitVec 32) (v4494 : BitVec 1) (v4505 : BitVec 1) (v4517 : BitVec 1) (v4529 : BitVec 1) (v4541 : BitVec 1) (v4553 : BitVec 1) (v4559 : BitVec 32) (v4565 : BitVec 1) (k0_hw7 : k0_chk7 i v4494 v4505 v4517 v4529 v4541 v4553 v4565) (v4568 : BitVec 1) (hown : v4488.toNat < 8) :
    Safe c R arg25 (Below (k0_off8 i v4494 v4505 v4517 v4529 v4541 v4553 v4565 0)) (k0_part221 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v9 v13 v4469 v4488 v4494 v4505 v4517 v4529 v4541 v4553 v4559 v4565 k0_hw7 v4568) (fun b d => Below (k0_off9 i v4494 v4505 v4517 v4529 v4541 v4553 v4565 b.1 0 + 1) d) := by
  refine Safe.unf ?_
  refine Safe.assume (chk8 _ _ _ _ _ _ _ _ _) ?_
  refine Safe.tileAny fun _ => ?_
  refine Safe.setLt (fun _ => by decide) (le_refl _) ?_
  refine Safe.tileAny fun _ => ?_
  refine Safe.setLt (fun _ => hown) (off9_le _ _ _ _ _ _ _ _ _) ?_
  exact Safe.ret fun _ h => h

end Cert.Kernel2Ideal.Tile

end
-- ==== Proof.Scan.lean ====
/- The attention call's loop over the wanted tiles: every word it reads of the list is a tile number. -/
module

public import proofs.«01_k».proof.Proof.Count

@[expose] public section

noncomputable section

namespace Cert.Kernel2Ideal.Tile

open Cert.Kernel2Ideal Cert.Kernel2Ideal.Gen
open Idealize.ShloMosaic Idealize.ShloMosaic.TcCoe

variable {F : FTy → Type} [FloatOps F]

set_option maxHeartbeats 40000000 in
theorem part231 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (a3 : Acc (F := F) c R arg3) (a4 : Acc (F := F) c R arg4) (a5 : Acc (F := F) c R arg5) (a6 : Acc (F := F) c R arg6) (a7 : Acc (F := F) c R arg7) (a8 : Acc (F := F) c R arg8) (a9 : Acc (F := F) c R arg9) (a10 : Acc (F := F) c R arg10) (a11 : Acc (F := F) c R arg11) (a12 : Acc (F := F) c R arg12) (a13 : Acc (F := F) c R arg13) (a14 : Acc (F := F) c R arg14) (a15 : Acc (F := F) c R arg15) (a16 : Acc (F := F) c R arg16) (a17 : Acc (F := F) c R arg17) (a18 : Acc (F := F) c R arg18) (a19 : Acc (F := F) c R arg19) (a20 : Acc (F := F) c R arg20) (a21 : Acc (F := F) c R arg21) (a22 : Acc (F := F) c R arg22) (a23 : Acc (F := F) c R arg23) (a24 : Acc (F := F) c R arg24)
    (v1 : BitVec 32) (v17 : BitVec 32) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (v4583 : BitVec 32) (v4846 : FVec F S512x256 .f32) (v4974 : IVec S64x768 1) (v4982 : FVec F S64x768 .f32) :
    Safe c R arg25 (Below (F := F) (k0_off9 i v4494 v4505 v4517 v4529 v4541 v4553 v4565 v4577 0 + 1)) (k0_part231 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v17 v4494 v4505 v4517 v4529 v4541 v4553 v4565 v4577 k0_hw8 v4583 v4846 v4974 v4982) (fun _ => Below (F := F) (k0_off9 i v4494 v4505 v4517 v4529 v4541 v4553 v4565 v4577 0 + 1)) := by
  refine Safe.unf ?_
  repeat (first
    | with_reducible refine Safe.load (by assumption) fun _ => ?_
    | with_reducible refine Safe.store (by assumption) ?_
    | with_reducible exact Safe.ret fun _ h => h
    | (with_reducible refine Safe.tileBelow ?_ fun v hv => ?_; · first | exact ⟨_, _, rfl, off12_lt _ _ _ _ _ _ _ _ _ _⟩ | exact ⟨_, _, rfl, off14_lt _ _ _ _ _ _ _ _ _ _⟩ | exact ⟨_, _, rfl, off16_lt _ _ _ _ _ _ _ _ _ _⟩ | exact ⟨_, _, rfl, off18_lt _ _ _ _ _ _ _ _ _ _⟩)
    | with_reducible refine Safe.assume (by first | exact chk10 (by assumption) | exact chk11 (by assumption) | exact chk12 (by assumption) | exact chk13 (by assumption)) ?_
    | with_reducible exact Safe.loop fun t _ => (no_t2 _ _ _ _ _ _ _ _ _ t).elim
    | with_reducible refine Safe.loop fun t _ => ?_
    | with_reducible refine Safe.dite (fun h => ?_) (fun h => ?_)
    | with_reducible refine Safe.seq ?_ fun b => ?_
    | exact Safe.ret fun _ h => h
    | refine Safe.unf ?_)

end Cert.Kernel2Ideal.Tile

end
-- ==== Proof.Last.lean ====
/- The attention call's last tile: the word it reads of the list is a tile number, whichever of the four cases the block is in. -/
module

public import proofs.«01_k».proof.Proof.Count

@[expose] public section

noncomputable section

namespace Cert.Kernel2Ideal.Tile

open Cert.Kernel2Ideal Cert.Kernel2Ideal.Gen
open Idealize.ShloMosaic Idealize.ShloMosaic.TcCoe

variable {F : FTy → Type} [FloatOps F]

set_option maxHeartbeats 40000000 in
theorem part232 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (a3 : Acc (F := F) c R arg3) (a4 : Acc (F := F) c R arg4) (a5 : Acc (F := F) c R arg5) (a6 : Acc (F := F) c R arg6) (a7 : Acc (F := F) c R arg7) (a8 : Acc (F := F) c R arg8) (a9 : Acc (F := F) c R arg9) (a10 : Acc (F := F) c R arg10) (a11 : Acc (F := F) c R arg11) (a12 : Acc (F := F) c R arg12) (a13 : Acc (F := F) c R arg13) (a14 : Acc (F := F) c R arg14) (a15 : Acc (F := F) c R arg15) (a16 : Acc (F := F) c R arg16) (a17 : Acc (F := F) c R arg17) (a18 : Acc (F := F) c R arg18) (a19 : Acc (F := F) c R arg19) (a20 : Acc (F := F) c R arg20) (a21 : Acc (F := F) c R arg21) (a22 : Acc (F := F) c R arg22) (a23 : Acc (F := F) c R arg23) (a24 : Acc (F := F) c R arg24)
    (v0 : BitVec 32) (v13 : IVec S256x128 32) (v156 : FVec F S64x1 .f32) (v175 : FVec F S64x1 .f32) (v244 : FVec F S64x1 .f32) (v263 : FVec F S64x1 .f32) (v332 : FVec F S64x1 .f32) (v351 : FVec F S64x1 .f32) (v420 : FVec F S64x1 .f32) (v439 : FVec F S64x1 .f32) (v489 : FVec F S1024x128 .f32) (v4488 : BitVec 32) (v4494 : BitVec 1) (v4505 : BitVec 1) (v4517 : BitVec 1) (v4529 : BitVec 1) (v4541 : BitVec 1) (v4553 : BitVec 1) (v4565 : BitVec 1) (v4577 : BitVec 1) (k0_hw8 : k0_chk8 i v4494 v4505 v4517 v4529 v4541 v4553 v4565 v4577) (v4583 : BitVec 32) (v5013 : BitVec 32) (v5014 : BitVec 32) (c0_i32_1731 : BitVec 32) :
    Safe c R arg25 (Below (F := F) (k0_off9 i v4494 v4505 v4517 v4529 v4541 v4553 v4565 v4577 0 + 1)) (k0_part232 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v0 v13 v156 v175 v244 v263 v332 v351 v420 v439 v489 v4488 v4494 v4505 v4517 v4529 v4541 v4553 v4565 v4577 k0_hw8 v4583 v5013 v5014 c0_i32_1731) (fun _ => Below (F := F) (k0_off9 i v4494 v4505 v4517 v4529 v4541 v4553 v4565 v4577 0 + 1)) := by
  refine Safe.dite (fun h => ?_) (fun h => ?_)
  repeat (first
    | with_reducible refine Safe.load (by assumption) fun _ => ?_
    | with_reducible refine Safe.store (by assumption) ?_
    | with_reducible exact Safe.ret fun _ h => h
    | (with_reducible refine Safe.tileBelow ?_ fun v hv => ?_; · first | exact ⟨_, _, rfl, off28_lt _ _ _ _ _ _ _ _ _⟩ | exact ⟨_, _, rfl, off31_lt _ _ _ _ _ _ _ _ _⟩ | exact ⟨_, _, rfl, off34_lt _ _ _ _ _ _ _ _ _⟩ | exact ⟨_, _, rfl, off37_lt _ _ _ _ _ _ _ _ _⟩)
    | with_reducible refine Safe.assume (by first | exact chk18 (by assumption) | exact chk19 (by assumption) | exact chk20 (by assumption) | exact chk21 (by assumption)) ?_
    | with_reducible refine Safe.dite (fun h => ?_) (fun h => ?_)
    | with_reducible refine Safe.seq ?_ fun b => ?_
    | exact Safe.ret fun _ h => h
    | refine Safe.unf ?_)

end Cert.Kernel2Ideal.Tile

end
-- ==== Proof.Whole.lean ====
/- The attention call's second half, and the whole call. -/
module

public import proofs.«01_k».proof.Proof.Front
public import proofs.«01_k».proof.Proof.List
public import proofs.«01_k».proof.Proof.Scan
public import proofs.«01_k».proof.Proof.Last

@[expose] public section

noncomputable section

namespace Cert.Kernel2Ideal.Tile

open Cert.Kernel2Ideal Cert.Kernel2Ideal.Gen
open Idealize.ShloMosaic Idealize.ShloMosaic.TcCoe

variable {F : FTy → Type} [FloatOps F]

set_option maxHeartbeats 40000000 in
theorem part235 {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (a3 : Acc (F := F) c R arg3) (a4 : Acc (F := F) c R arg4) (a5 : Acc (F := F) c R arg5) (a6 : Acc (F := F) c R arg6) (a7 : Acc (F := F) c R arg7) (a8 : Acc (F := F) c R arg8) (a9 : Acc (F := F) c R arg9) (a10 : Acc (F := F) c R arg10) (a11 : Acc (F := F) c R arg11) (a12 : Acc (F := F) c R arg12) (a13 : Acc (F := F) c R arg13) (a14 : Acc (F := F) c R arg14) (a15 : Acc (F := F) c R arg15) (a16 : Acc (F := F) c R arg16) (a17 : Acc (F := F) c R arg17) (a18 : Acc (F := F) c R arg18) (a19 : Acc (F := F) c R arg19) (a20 : Acc (F := F) c R arg20) (a21 : Acc (F := F) c R arg21) (a22 : Acc (F := F) c R arg22) (a23 : Acc (F := F) c R arg23) (a24 : Acc (F := F) c R arg24)
    (v0 : BitVec 32) (v1 : BitVec 32) (v3 : FVec F S256x128 .bf16) (v4 : FVec F S256x128 .bf16) (v5 : FVec F S256x128 .bf16) (v6 : FVec F S256x128 .bf16) (v9 : F .f32) (v10 : F .f32) (v11 : F .f32) (v12 : F .f32) (v13 : IVec S256x128 32) (v17 : BitVec 32) (v156 : FVec F S64x1 .f32) (v175 : FVec F S64x1 .f32) (v194 : FVec F S64x1 .f32) (v213 : FVec F S64x1 .f32) (v244 : FVec F S64x1 .f32) (v263 : FVec F S64x1 .f32) (v282 : FVec F S64x1 .f32) (v301 : FVec F S64x1 .f32) (v332 : FVec F S64x1 .f32) (v351 : FVec F S64x1 .f32) (v370 : FVec F S64x1 .f32) (v389 : FVec F S64x1 .f32) (v420 : FVec F S64x1 .f32) (v439 : FVec F S64x1 .f32) (v458 : FVec F S64x1 .f32) (v477 : FVec F S64x1 .f32) (v489 : FVec F S1024x128 .f32) (v499 : IVec S64x256 32) (v504 : IVec S64x256 32) (v525 : FVec F S8x256 .f32) (v526 : FVec F S8x256 .f32) (v527 : FVec F S8x256 .f32) (v528 : FVec F S8x256 .f32) (v529 : FVec F S8x256 .f32) (v530 : FVec F S8x256 .f32) (v531 : FVec F S8x256 .f32) (v532 : FVec F S8x256 .f32) (v533 : IVec S8x256 32) (v2508 : IVec S8x256 32) (v2514 : IVec S8x256 32) (v2520 : IVec S8x256 32) (v2526 : IVec S8x256 32) (v2544 : IVec S8x256 32) (v2550 : IVec S8x256 32) (v2556 : IVec S8x256 32) (v2562 : IVec S8x256 32) (v2569 : IVec S8x256 32) (v2575 : IVec S8x256 32) (v2581 : IVec S8x256 32) (v2587 : IVec S8x256 32) (v2605 : IVec S8x256 32) (v2611 : IVec S8x256 32) (v2617 : IVec S8x256 32) (v2623 : IVec S8x256 32) (v2624 : FVec F S1x256 .f32) (v2626 : IVec S8x256 1) (hv1 : v1 = Scalar.muli (BitVec.ofNat 32 (i 2).val) 4#32) :
    Safe c R arg25 (Below 0) (k0_part235 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v0 v1 v3 v4 v5 v6 v9 v10 v11 v12 v13 v17 v156 v175 v194 v213 v244 v263 v282 v301 v332 v351 v370 v389 v420 v439 v458 v477 v489 v499 v504 v525 v526 v527 v528 v529 v530 v531 v532 v533 v2508 v2514 v2520 v2526 v2544 v2550 v2556 v2562 v2569 v2575 v2581 v2587 v2605 v2611 v2617 v2623 v2624 v2626) (fun _ _ => True) := by
  refine Safe.unf ?_
  iterate 41 ((with_reducible refine Safe.seq ?_ fun b => ?_); · repeat (first
    | with_reducible refine Safe.load (by assumption) fun _ => ?_
    | with_reducible refine Safe.store (by assumption) ?_
    | with_reducible exact Safe.ret fun _ h => h
    | (with_reducible refine Safe.tileBelow ?_ fun v hv => ?_; · exact ⟨_, _, rfl, tile0_lt⟩)
    | with_reducible refine Safe.assume (by exact chk9 (by assumption)) ?_
    | with_reducible refine Safe.dite (fun h => ?_) (fun h => ?_)
    | with_reducible refine Safe.seq ?_ fun b => ?_
    | exact Safe.ret fun _ h => h
    | refine Safe.unf ?_))
  with_reducible refine Safe.bind _ (part218 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ hv1) fun b => Safe.pull fun hown => ?_
  with_reducible refine Safe.bind _ (part219 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _) fun b => ?_
  with_reducible refine Safe.bind _ (part220 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _) fun b => ?_
  with_reducible refine Safe.bind _ (part221 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ (by assumption)) fun b => ?_
  iterate 9 ((with_reducible refine Safe.seq ?_ fun b => ?_); · repeat (first
    | with_reducible refine Safe.load (by assumption) fun _ => ?_
    | with_reducible refine Safe.store (by assumption) ?_
    | with_reducible exact Safe.ret fun _ h => h
    | (with_reducible refine Safe.tileBelow ?_ fun v hv => ?_; · exact ⟨_, _, rfl, tile0_lt⟩)
    | with_reducible refine Safe.assume (by exact chk9 (by assumption)) ?_
    | with_reducible refine Safe.dite (fun h => ?_) (fun h => ?_)
    | with_reducible refine Safe.seq ?_ fun b => ?_
    | exact Safe.ret fun _ h => h
    | refine Safe.unf ?_))
  with_reducible refine Safe.seq (part231 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 a3 a4 a5 a6 a7 a8 a9 a10 a11 a12 a13 a14 a15 a16 a17 a18 a19 a20 a21 a22 a23 a24 _ _ _ _ _ _ _ _ _ _ _ _ _ _ _) fun b => ?_
  with_reducible refine Safe.seq (part232 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 a3 a4 a5 a6 a7 a8 a9 a10 a11 a12 a13 a14 a15 a16 a17 a18 a19 a20 a21 a22 a23 a24 _ _ _ _ _ _ _ _ _ _ _ _ _ _ _ _ _ _ _ _ _ _ _ _ _) fun b => ?_
  (with_reducible refine Safe.seq ?_ fun b => ?_); · repeat (first
    | with_reducible refine Safe.load (by assumption) fun _ => ?_
    | with_reducible refine Safe.store (by assumption) ?_
    | with_reducible exact Safe.ret fun _ h => h
    | (with_reducible refine Safe.tileBelow ?_ fun v hv => ?_; · exact ⟨_, _, rfl, tile0_lt⟩)
    | with_reducible refine Safe.assume (by exact chk9 (by assumption)) ?_
    | with_reducible refine Safe.dite (fun h => ?_) (fun h => ?_)
    | with_reducible refine Safe.seq ?_ fun b => ?_
    | exact Safe.ret fun _ h => h
    | refine Safe.unf ?_)
  repeat (first
    | with_reducible refine Safe.load (by assumption) fun _ => ?_
    | with_reducible refine Safe.store (by assumption) ?_
    | with_reducible exact Safe.ret fun _ _ => trivial
    | (with_reducible refine Safe.tileBelow ?_ fun v hv => ?_; · exact ⟨_, _, rfl, tile0_lt⟩)
    | with_reducible refine Safe.assume (by exact chk9 (by assumption)) ?_
    | with_reducible refine Safe.dite (fun h => ?_) (fun h => ?_)
    | with_reducible refine Safe.seq ?_ fun b => ?_
    | exact Safe.ret fun _ _ => trivial
    | refine Safe.unf ?_)

set_option maxHeartbeats 40000000 in
theorem whole {c : Dev nD} {R : Res F} (i : grid0.Coords) (arg3 : Memref sig .tc .vmem S256x512 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x4096x128 .bf16) (harg6 : arg6.IsWhole) (arg7 : Memref sig .tc .vmem S1x4096x256 .bf16) (harg7 : arg7.IsWhole) (arg8 : Memref sig .tc .vmem S1x4096x128 .bf16) (harg8 : arg8.IsWhole) (arg9 : Memref sig .tc .vmem S1x4096x256 .bf16) (harg9 : arg9.IsWhole) (arg10 : Memref sig .tc .vmem S256x128 .f32) (harg10 : arg10.IsWhole) (arg11 : Memref sig .tc .vmem S64x256 .bf16) (harg11 : arg11.IsWhole) (arg12 : Memref sig .tc .vmem S128x768 .bf16) (harg12 : arg12.IsWhole) (arg13 : Memref sig .tc .vmem S256x256 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x256 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S1024x768 .f32) (harg21 : arg21.IsWhole) (arg22 : Memref sig .tc .vmem S1024x768 .bf16) (harg22 : arg22.IsWhole) (arg23 : Memref sig .tc .vmem S1024x256 .f32) (harg23 : arg23.IsWhole) (arg24 : Memref sig .tc .vmem S1024x256 .bf16) (harg24 : arg24.IsWhole) (arg25 : Memref sig .tc .smem S9 .i32) (harg25 : arg25.IsWhole)
    (a3 : Acc (F := F) c R arg3) (a4 : Acc (F := F) c R arg4) (a5 : Acc (F := F) c R arg5) (a6 : Acc (F := F) c R arg6) (a7 : Acc (F := F) c R arg7) (a8 : Acc (F := F) c R arg8) (a9 : Acc (F := F) c R arg9) (a10 : Acc (F := F) c R arg10) (a11 : Acc (F := F) c R arg11) (a12 : Acc (F := F) c R arg12) (a13 : Acc (F := F) c R arg13) (a14 : Acc (F := F) c R arg14) (a15 : Acc (F := F) c R arg15) (a16 : Acc (F := F) c R arg16) (a17 : Acc (F := F) c R arg17) (a18 : Acc (F := F) c R arg18) (a19 : Acc (F := F) c R arg19) (a20 : Acc (F := F) c R arg20) (a21 : Acc (F := F) c R arg21) (a22 : Acc (F := F) c R arg22) (a23 : Acc (F := F) c R arg23) (a24 : Acc (F := F) c R arg24) :
    Safe c R arg25 (fun _ => True) (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ _ => True) := by
  refine Safe.weaken (P' := Below 0) ?_ (fun _ _ j hj => absurd hj (Nat.not_lt_zero _)) (fun _ _ h => h)
  refine Safe.bind _ (front i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 a3 a4 a5 a6 a7 a8 a9 a10 a11 a12 a13 a14 a15 a16 a17 a18 a19 a20 a21 a22 a23 a24) fun r => Safe.pull fun hr => ?_
  refine Safe.bind _ (part235 _ arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 a3 a4 a5 a6 a7 a8 a9 a10 a11 a12 a13 a14 a15 a16 a17 a18 a19 a20 a21 a22 a23 a24 _ _ _ _ _ _ _ _ _ _ _ _ _ _ _ _ _ _ _ _ _ _ _ _ _ _ _ _ _ _ _ _ _ _ _ _ _ _ _ _ _ _ _ _ _ _ _ _ _ _ _ _ _ _ _ _ _ _ hr) fun b => ?_
  refine Safe.load (by assumption) fun _ => ?_
  refine Safe.store (by assumption) ?_
  exact Safe.ret fun _ h => h

end Cert.Kernel2Ideal.Tile

end
-- ==== Proof.Attn.lean ====
/- The launch of the attention call: its body, run from any contents of the memrefs it is handed (Proof/Whole.lean), at every point of the grid. No contents
   are kept: every window is forgotten, so what the run says is that it ends, that the argument arrays are as they were, and that every counter is zero. -/
module

public import proofs.«01_k».proof.Proof.Whole
public import Idealize.ShloMosaic.Lib.Pipeline.Frame

@[expose] public section

noncomputable section

namespace Cert.Kernel2Ideal.Tile

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every memref the body is handed at a point but the tile list, each at some contents. -/
def others (c : Dev nD) (t : Fin cfg0.N) : Res F :=
  iprop(held c (st0_0 t) ∗ held c (st0_1 t) ∗ held c (st0_2 t) ∗ held c (st0_3 t) ∗ held c (st0_4 t) ∗ held c (st0_5 t) ∗ held c (st0_6 t) ∗ held c (st0_7 t) ∗ held c (st0_8 t) ∗ held c (st0_9 t) ∗ held c (st0_10 t) ∗ held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8) ∗ held c (Memref.whole cc0_scratch9) ∗ held c (Memref.whole cc0_scratch10))

/-- Those memrefs and the tile list. -/
def handed (c : Dev nD) (t : Fin cfg0.N) : Res F :=
  iprop(others c t ∗ ∃ d : Tiles F, ⌜True⌝ ∗ owns (c : Thread nD τ) (Memref.whole cc0_scratch11) fullShare d)

/-- The body runs from them and hands them back. -/
theorem body_run (c : Dev nD) (t : Fin cfg0.N) :
    handed (F := F) c t ⊢ wp frame (wpE (defs₀ (F := F)) Variants.none c none) Set.univ (bodyAt0 t) (fun _ => handed c t) :=
  whole (F := F) (c := c) (R := others c t) (grid0.coords t) _ _ _ _ _ _ _ _ _ _ _ _ _ _ _ _ _ _ _ _ _ _ _ _ _ _ _ _ _ _ _ _ _ _ _ _ _ _ _ _ _ _ _ _ _ _
    Acc.head (Acc.tail (Acc.head)) (Acc.tail (Acc.tail (Acc.head))) (Acc.tail (Acc.tail (Acc.tail (Acc.head)))) (Acc.tail (Acc.tail (Acc.tail (Acc.tail (Acc.head))))) (Acc.tail (Acc.tail (Acc.tail (Acc.tail (Acc.tail (Acc.head)))))) (Acc.tail (Acc.tail (Acc.tail (Acc.tail (Acc.tail (Acc.tail (Acc.head))))))) (Acc.tail (Acc.tail (Acc.tail (Acc.tail (Acc.tail (Acc.tail (Acc.tail (Acc.head)))))))) (Acc.tail (Acc.tail (Acc.tail (Acc.tail (Acc.tail (Acc.tail (Acc.tail (Acc.tail (Acc.head))))))))) (Acc.tail (Acc.tail (Acc.tail (Acc.tail (Acc.tail (Acc.tail (Acc.tail (Acc.tail (Acc.tail (Acc.head)))))))))) (Acc.tail (Acc.tail (Acc.tail (Acc.tail (Acc.tail (Acc.tail (Acc.tail (Acc.tail (Acc.tail (Acc.tail (Acc.head))))))))))) (Acc.tail (Acc.tail (Acc.tail (Acc.tail (Acc.tail (Acc.tail (Acc.tail (Acc.tail (Acc.tail (Acc.tail (Acc.tail (Acc.head)))))))))))) (Acc.tail (Acc.tail (Acc.tail (Acc.tail (Acc.tail (Acc.tail (Acc.tail (Acc.tail (Acc.tail (Acc.tail (Acc.tail (Acc.tail (Acc.head))))))))))))) (Acc.tail (Acc.tail (Acc.tail (Acc.tail (Acc.tail (Acc.tail (Acc.tail (Acc.tail (Acc.tail (Acc.tail (Acc.tail (Acc.tail (Acc.tail (Acc.head)))))))))))))) (Acc.tail (Acc.tail (Acc.tail (Acc.tail (Acc.tail (Acc.tail (Acc.tail (Acc.tail (Acc.tail (Acc.tail (Acc.tail (Acc.tail (Acc.tail (Acc.tail (Acc.head))))))))))))))) (Acc.tail (Acc.tail (Acc.tail (Acc.tail (Acc.tail (Acc.tail (Acc.tail (Acc.tail (Acc.tail (Acc.tail (Acc.tail (Acc.tail (Acc.tail (Acc.tail (Acc.tail (Acc.head)))))))))))))))) (Acc.tail (Acc.tail (Acc.tail (Acc.tail (Acc.tail (Acc.tail (Acc.tail (Acc.tail (Acc.tail (Acc.tail (Acc.tail (Acc.tail (Acc.tail (Acc.tail (Acc.tail (Acc.tail (Acc.head))))))))))))))))) (Acc.tail (Acc.tail (Acc.tail (Acc.tail (Acc.tail (Acc.tail (Acc.tail (Acc.tail (Acc.tail (Acc.tail (Acc.tail (Acc.tail (Acc.tail (Acc.tail (Acc.tail (Acc.tail (Acc.tail (Acc.head)))))))))))))))))) (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.head))))))))))))))))))) (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.head)))))))))))))))))))) (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.head))))))))))))))))))))) (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.tail (Acc.last))))))))))))))))))))))

/-- What the region keeps between points: the scratch memrefs at some contents, and the generator's register. -/
theorem kept_eq (c : Dev nD) :
    (Pipeline.ΦA spec0 c : Res F) = iprop(iprop(held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8) ∗ held c (Memref.whole cc0_scratch9) ∗ held c (Memref.whole cc0_scratch10) ∗ held c (Memref.whole cc0_scratch11)) ∗ ∃ r, prngReg c r) := by
  unfold Pipeline.ΦA
  rw [scopedRest0_eq]; simp only [held, owns_whole]; try rfl

/-- Every window is forgotten. -/
def forgets : Fin 11 → Bool := fun _ => true

/-- The proof data: the arrays as the region finds them, what the body leaves unnamed, the shares of an array several windows are on. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at a point and what it returns. -/
def around (c : Dev nD) (t : Fin cfg0.N) : Res F :=
  iprop(Pipeline.ΦA spec0 c ∗ (dats m 0 c).owesAt () t.castSucc ∗ held c (st0_0 t) ∗ held c (st0_1 t) ∗ held c (st0_2 t) ∗ held c (st0_3 t) ∗ held c (st0_4 t) ∗ held c (st0_5 t) ∗ held c (st0_6 t) ∗ held c (st0_7 t) ∗ held c (st0_8 t) ∗ held c (st0_9 t) ∗ held c (st0_10 t))

theorem around_out (c : Dev nD) (t : Fin cfg0.N) :
    around m c t ⊢ iprop(handed c t ∗ (∃ r, prngReg c r) ∗ (dats m 0 c).owesAt () t.castSucc) := by
  unfold around handed others
  rw [kept_eq]
  iintro ⟨⟨⟨S0, S1, S2, S3, S4, S5, S6, S7, S8, S9, S10, S11⟩, Hg⟩, HO, W0, W1, W2, W3, W4, W5, W6, W7, W8, W9, W10⟩
  isplitl [S0 S1 S2 S3 S4 S5 S6 S7 S8 S9 S10 S11 W0 W1 W2 W3 W4 W5 W6 W7 W8 W9 W10]
  · isplitl [S0 S1 S2 S3 S4 S5 S6 S7 S8 S9 S10 W0 W1 W2 W3 W4 W5 W6 W7 W8 W9 W10]
    · isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexact W8
      isplitl [W9]; · iexact W9
      isplitl [W10]; · iexact W10
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    · unfold held
      icases S11 with ⟨%d, S11⟩
      iexists d
      isplitr; · ipureintro; trivial
      iexact S11
  isplitl [Hg]; · iexact Hg
  iexact HO

theorem around_in (c : Dev nD) (t : Fin cfg0.N) :
    iprop(handed c t ∗ (∃ r, prngReg c r) ∗ (dats m 0 c).owesAt () t.castSucc) ⊢ around m c t := by
  unfold around handed others
  rw [kept_eq]
  iintro ⟨⟨⟨W0, W1, W2, W3, W4, W5, W6, W7, W8, W9, W10, S0, S1, S2, S3, S4, S5, S6, S7, S8, S9, S10⟩, ⟨%d, -, S11⟩⟩, Hg, HO⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      unfold held; iexists d; iexact S11
    · iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  iexact W10

theorem sound_body (c : Dev nD) (t : Fin cfg0.N) :
    around m c t ⊢ wp frame (wpE (defs₀ (F := F)) Variants.none c none) Set.univ (bodyAt0 t) (fun _ => around m c t) := by
  refine (around_out m c t).trans (BIBase.Entails.trans ?_ ((wp_frame_r _ _ _).trans (wp_mono _ _ _ fun _ => around_in m c t)))
  iintro ⟨H, HX⟩
  isplitl [H]
  · iapply (body_run c t); iexact H
  · iexact HX

/-- The body table's row at the point is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- the launch theorem's implicit arguments are found by unifying its conclusion, which needs plain definitions in the type of a metavariable unfolded
set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl) (howed := fun _ _ => rfl) (V := V m) (hmain := hmain m Variants.none)
    (hA := A_eq m) (hΦ := fun _ _ => rfl)

variable {m ρ} in
/-- An array of an input window ends as the region found it. -/
theorem input_kept {r : PUnit × MemSt nD τ sig (Elt F)}
    (h : Pipeline.RDat.FramePost (cfgs 0) (fun c => (dats (F := F) m 0 c).toRForget forgets) (V m) r) (c : Dev nD) (w : Fin 11)
    (hin : (cfg0.win w).isOut = false) : r.2.mem ((spec0 w).arr.view.loc (c.tc : Thread nD τ)) = V m c (Pipeline.arrRef spec0 w) := by
  have h1 := (h c).1 w
  exact Eq.mp (congrFun (Pipeline.RDat.ArrAt_in (rd := (dats m 0 c).toRForget forgets) w hin _) _) h1

/-- The run of the call: the arguments are as they were, and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(input_kept h.1 c 0 rfl).trans (V_main_arg0 m c), (input_kept h.1 c 2 rfl).trans (V_main_arg1 m c),
    (input_kept h.1 c 5 rfl).trans (V_main_arg2 m c), (input_kept h.1 c 6 rfl).trans (V_main_arg3 m c), (input_kept h.1 c 7 rfl).trans (V_main_arg4 m c)⟩, h.2⟩)
    (run_main m ρ)

end Cert.Kernel2Ideal.Tile

end
-- ==== Proof.Same.lean ====
/- The attention call as printed and its ideal program are one text, so at one instance they are one program: their body tables are equal, and so are their
   mains. The run of one is then the run of the other. -/
module

public import proofs.«01_k».proof.Proof.Gen.Kernel2
public import proofs.«01_k».proof.Proof.Gen.Kernel2Ideal
public import Idealize.ShloMosaic.PureOps.BitExact

@[expose] public section

set_option maxRecDepth 20000
set_option maxHeartbeats 0

noncomputable section

namespace Cert.Proof.Same

open Idealize.ShloMosaic Idealize.SL.Sem

/-- Two sequences are equal when their heads are and their rests are. -/
theorem bind_same {M : Type → Type 1} [Monad M] {α β : Type} {p q : M α} {f g : α → M β} (h : p = q) (k : ∀ a, f a = g a) :
    p >>= f = q >>= g := by rw [h, funext k]

/-- The kernels' body tables are equal. -/
theorem bodies : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  match l, a with
  | 0, (t, s) => rfl

/-- The whole tables are equal. -/
theorem tables : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs _) bodies

/-- The first sixty statements of the mains are equal, one after the other. -/
theorem front : @Cert.Kernel2.main_part0 Bits _ Cert.Kernel2.Gen.facts = @Cert.Kernel2Ideal.main_part0 Bits _ Cert.Kernel2Ideal.Gen.facts := by
  refine funext fun d => ?_
  unfold Cert.Kernel2.main_part0 Cert.Kernel2Ideal.main_part0
  repeat refine bind_same rfl fun _ => ?_
  rfl

/-- The rest is equal. -/
theorem back : @Cert.Kernel2.main_part1 Bits _ Cert.Kernel2.Gen.facts = @Cert.Kernel2Ideal.main_part1 Bits _ Cert.Kernel2Ideal.Gen.facts := by
  exact rfl

/-- The mains are equal. -/
theorem mains : @Cert.Kernel2.main Bits _ Cert.Kernel2.Gen.facts = @Cert.Kernel2Ideal.main Bits _ Cert.Kernel2Ideal.Gen.facts := by
  refine funext fun d => ?_
  unfold Cert.Kernel2.main Cert.Kernel2Ideal.main
  exact bind_same (congrFun front d) fun _ => congrFun back d

end Cert.Proof.Same

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Wanted
public import proofs.«01_k».proof.Proof.Result
public import proofs.«01_k».proof.Proof.Attn
public import proofs.«01_k».proof.Proof.Same
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Tile.final m c, Cert.KernelIdeal.Tile.wanted]
  refine (Cert.ReferenceIdeal.Read.val_main_v327_eq (F := Ideal) (StableHlo.launchContents m' c)).trans ?_
  obtain ⟨h0, h1, h2, h3, h4, h5, h6, h7, h8, h9, h10, h11⟩ := hagree c
  rw [← h0, ← h1, ← h2, ← h3, ← h4, ← h5, ← h6, ← h7, ← h8, ← h9, ← h10, ← h11]

/-- The printed attention call is its ideal program at the machine's floats, so its frame is that program's. -/
theorem quiescent_Kernel2 : quiescent_Kernel2 := fun m ρ _ => by
  rw [Same.tables, Same.mains]
  exact Cert.Kernel2Ideal.Tile.frame_main (F := Bits) m ρ

theorem quiescent_Kernel2Ideal : quiescent_Kernel2Ideal := fun m ρ _ => Cert.Kernel2Ideal.Tile.frame_main (F := Ideal) m ρ

theorem claim : Cert.Claim := ⟨Cert.Kernel.Gen.facts, Cert.KernelIdeal.Gen.facts, Cert.ReferenceIdeal.Gen.facts, Cert.Kernel2.Gen.facts, Cert.Kernel2Ideal.Gen.facts,
  fun m ρ _ => Cert.Kernel.Gen.frame m ρ, fun m ρ _ => Cert.KernelIdeal.Gen.frame m ρ, quiescent_ReferenceIdeal, quiescent_Kernel2, quiescent_Kernel2Ideal,
  (trivial : preserves_Kernel_KernelIdeal), algebraic_KernelIdeal_ReferenceIdeal, (trivial : preserves_Kernel2_Kernel2Ideal)⟩

end Cert.Proof

end
